-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S2x256x512 : Shape := ⟨3, ![2, 256, 512]⟩
abbrev S2 : Shape := ⟨1, ![2]⟩
abbrev S2x2x512 : Shape := ⟨3, ![2, 2, 512]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1x2x512 : Shape := ⟨3, ![1, 2, 512]⟩

abbrev nBuf : Space → Nat
  | .hbm => 4
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S2x512, .f32⟩
  | .local _ .vmem, ⟨1, _⟩ => ⟨S2x256x512, .f32⟩
  | .local _ .vmem, ⟨2, _⟩ => ⟨S2x256x512, .f32⟩
  | .local _ .vmem, ⟨3, _⟩ => ⟨S2x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch4 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v125 : BitVec 32 := Scalar.muli v2 c8_i32_85
  let v126 : BitVec 32 := Scalar.addi c0_i32_86 v125
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_87 : BitVec 32 := 4#32
  let v127 : BitVec 32 := Scalar.muli v9 c4_i32_87
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v129 : BitVec 32 := Scalar.muli v8 c1_i32_88
  let v130 : BitVec 32 := Scalar.addi v128 v129
  v130.toNat
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Slots.lean ====
/-
# Slots: a buffer cut in two, one slot held by its own elements

The kernel keeps its scratch buffers as two slots along the leading axis and its two large operands as two halves of
their rows. A slot is held (`Idealize.ShloMosaic.owns`) by exactly its own elements, at the value the slot's memref
reads. This module proves, for any such slot:

* a local copy into a slot is started from a source held by its own elements, and its wait hands the slot back
  holding what the source reads (`copy_start`, `copy_wait`);
* a load through the slot's rectangle of the whole buffer reads the slot's value, with the unit axis put back
  (`load_slot`), and a store through it replaces the slot's value (`store_slot`);
* two rectangles one after the other split a buffer (`apart_along`), and a buffer held whole is held as the two pieces,
  and back (`cut_two`, `join_two`).
-/
module

public import Idealize.ShloMosaic.Lib.Transfers
public import Idealize.ShloMosaic.Lib.Memref
public import Idealize.ShloMosaic.Lib.Exec.Geometry
public import Idealize.ShloMosaic.Lib.Tactic

@[expose] public section

noncomputable section

namespace Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type}
variable {U : Type} [URA U] {Lvl : Type} [Preorder Lvl]

local notation "𝕄" => MT nD τ sig Ix Val ℕ U Lvl

/-! ## One buffer, two pieces -/

/-- Two sets of indices that between them have every index once. -/
def Apart {ι : Type} [Fintype ι] [DecidableEq ι] (I J : Finset ι) : Prop := Disjoint I J ∧ I ∪ J = Finset.univ

/-- Two rectangles that lie one after the other along the axis `x`, fill it, and take all of the others. -/
theorem apart_along {s : Shape} (x : Fin s.rank) {o₀ n₀ o₁ n₁ : Fin s.rank → ℕ} (h₀ : ∀ a, o₀ a + n₀ a ≤ s.size a)
    (h₁ : ∀ a, o₁ a + n₁ a ≤ s.size a) (hx : o₀ x = 0 ∧ o₁ x = n₀ x ∧ n₀ x + n₁ x = s.size x)
    (hothers : ∀ a, a ≠ x → o₀ a = 0 ∧ o₁ a = 0 ∧ n₀ a = s.size a ∧ n₁ a = s.size a) :
    Apart (Rect.unit (s := s) o₀ n₀ h₀).set (Rect.unit (s := s) o₁ n₁ h₁).set := by
  have first (y : s.Idx) : y ∈ (Rect.unit (s := s) o₀ n₀ h₀).set ↔ (y x).val < n₀ x := by
    rw [Rect.mem_set_unit]
    refine ⟨fun H => by have := (H x).2; omega, fun H a => ?_⟩
    by_cases ha : a = x
    · subst ha; omega
    · have := hothers a ha; have := (y a).isLt; omega
  have second (y : s.Idx) : y ∈ (Rect.unit (s := s) o₁ n₁ h₁).set ↔ n₀ x ≤ (y x).val := by
    rw [Rect.mem_set_unit]
    refine ⟨fun H => by have := (H x).1; omega, fun H a => ?_⟩
    have := (y a).isLt
    by_cases ha : a = x
    · subst ha; omega
    · have := hothers a ha; omega
  constructor
  · rw [Finset.disjoint_left]
    intro y h h'
    rw [first] at h
    rw [second] at h'
    omega
  · ext y
    simp only [Finset.mem_union, Finset.mem_univ, iff_true, first, second]
    omega

/-- So are the elements of the two slices of a buffer along them; -/
theorem apart_slices {k : Kind} (b : Ref sig k) {r r' : Rect b.ty.shape} {hr : ∀ a, r.stride a = 1} {hr' : ∀ a, r'.stride a = 1}
    (h : Apart r.set r'.set) : Apart ((Memref.whole b).slice r hr).view.set ((Memref.whole b).slice r' hr').view.set := by
  have e (q : Rect b.ty.shape) (hq : ∀ a, q.stride a = 1) : ((Memref.whole b).slice q hq).view.set = q.set := View.set_slice_whole _ _
  rwa [e, e]
/-- and of the two slots, the unit axis dropped. -/
theorem apart_slots {k : Kind} (b : Ref sig k) {r r' : Rect b.ty.shape} {hr : ∀ a, r.stride a = 1} {hr' : ∀ a, r'.stride a = 1}
    {t : Shape} {hq : r.shape.Squeezes t} {hq' : r'.shape.Squeezes t} (h : Apart r.set r'.set) :
    Apart (((Memref.whole b).slice r hr).squeeze t hq).view.set (((Memref.whole b).slice r' hr').squeeze t hq').view.set := by
  have h := apart_slices b (hr := hr) (hr' := hr') h
  rw [← View.set_reshape _ hq.numel_eq, ← View.set_reshape _ hq'.numel_eq] at h
  exact h

section Pieces

variable {ℓ : Loc nD τ sig} {I J : Finset (Idx ℓ)}

/-- A buffer held whole is held as two pieces, both at the same contents; -/
theorem cut_two (h : Apart I J) (f : Buf Val ℓ) :
    (ℓ ↦{fullShare} f : sProp 𝕄) ⊢ iprop((ℓ ↦[I]{fullShare} f) ∗ ℓ ↦[J]{fullShare} f) := by
  have hu := (pointsTo_union (Ix := Ix) (Val := Val) (Name := ℕ) (U := U) (Lvl := Lvl) (q := fullShare) (f := f) h.1).1
  rwa [h.2] at hu

/-- two pieces at one contents make up the buffer at that contents; -/
theorem join_two (h : Apart I J) (f : Buf Val ℓ) :
    iprop((ℓ ↦[I]{fullShare} f) ∗ ℓ ↦[J]{fullShare} f) ⊢ (ℓ ↦{fullShare} f : sProp 𝕄) := by
  have hu := (pointsTo_union (Ix := Ix) (Val := Val) (Name := ℕ) (U := U) (Lvl := Lvl) (q := fullShare) (f := f) h.1).2
  rwa [h.2] at hu

/-- two pieces at contents of their own make up the buffer at some contents. -/
theorem join_two_any (h : Apart I J) (f g : Buf Val ℓ) :
    iprop((ℓ ↦[I]{fullShare} f) ∗ ℓ ↦[J]{fullShare} g) ⊢ (iprop(∃ h, ℓ ↦{fullShare} h) : sProp 𝕄) := by
  have hu := (pointsTo_join (Ix := Ix) (Val := Val) (Name := ℕ) (U := U) (Lvl := Lvl) (q := fullShare) (f := f) (g := g) h.1)
  rw [h.2] at hu
  iintro H
  iexists _
  iapply hu
  iexact H

end Pieces

/-! ## Copies within one device -/

section Copies

variable {Λ : Labels} {defs : Defs nD τ sig Val Λ} (EC : UEmb Counters (MT nD τ sig Ix Val ℕ U Lvl)) (𝒱 : Variants) (c : Thread nD τ)
  (bd : Option 𝒱.V) {α : Type} {Q : α → sProp (MT nD τ sig Ix Val ℕ U Lvl)}

variable {sp sp' : Space} {s : Shape} {e : EltTy}

/-- A memref's own elements at full share, its buffer's contents being `X` there. -/
abbrev piece (m : Memref sig c.2.kind sp s e) (X : Buf Val (m.view.loc c)) : sProp 𝕄 := m.view.loc c ↦[m.view.set]{fullShare} X

/-- A copy under way from `src` (whose buffer holds `X`) into `dst`, counted on the cell `sm`: its wait will hand the two
    memrefs' elements back, the destination's rewritten. -/
def Copying (src : Memref sig c.2.kind sp s e) (dst : Memref sig c.2.kind sp' s e) (sm : DmaSem sig) (ι : Ix)
    (X : Buf Val (src.view.loc c)) : sProp 𝕄 :=
  iprop(∃ fd : Buf Val (dst.view.loc c), Flight EC c (.dma sm) ι dst.view.dmaCredit
    iprop((dst.view.loc c ↦[dst.view.set]{fullShare} (dst.view.write Val fd (src.view.read Val X) Finset.univ)) ∗ piece c src X))

/-- Starting the copy: it takes the source's elements, the destination's at any value, and the cell at zero. -/
theorem copy_start [EC.LandsIn (upEmb : UEmb _ (MT nD τ sig Ix Val ℕ U Lvl))]
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} (ι : Ix) (hpos : 0 < dst.view.dmaCredit) (X : Buf Val (src.view.loc c)) :
    iprop(piece c src X ∗ (∃ v, owns c dst fullShare v) ∗ semVal (c, .dma sm) 0)
      ⊢ iprop((Copying EC c src dst sm ι X -∗ wp frame (wpE defs 𝒱 c bd) Set.univ (k ⟨⟩) Q)
          -∗ wp frame (wpE defs 𝒱 c bd) Set.univ (.op (.enqueueDma src (.here dst) (.dma sm) hsrc hdst hsem) k) Q) := by
  unfold owns
  iintro ⟨Hs, ⟨%v, %fd, %hfd, Hd⟩, Hv⟩ Hk
  iapply (wp_dmaLocal EC 𝒱 c bd (via := ReadAs.same) (fs := X) (fd := fd) ι dst.view.dmaCredit rfl hpos subset_rfl) $$ [Hs Hd Hv]
  · isplitl [Hs]; · iexact Hs
    isplitl [Hd]; · iexact Hd
    iexact Hv
  iintro Hf
  iapply Hk
  unfold Copying
  iexists fd
  iexact Hf

/-- Waiting for it: the destination holds what the source reads, the source is back, the cell is at zero again. -/
theorem copy_wait [EC.LandsIn (upEmb : UEmb _ (MT nD τ sig Ix Val ℕ U Lvl))]
    {src : Memref sig c.2.kind sp s e} {dst : Memref sig c.2.kind sp' s e} {sm : DmaSem sig}
    {hsrc : src.view.WordExact} {hdst : dst.view.WordExact}
    {k : PUnit → Prog (TpuEff nD τ sig Val Λ c.2) α} (ι : Ix) (X : Buf Val (src.view.loc c))
    {O : CellTallies nD τ sig Ix} {W : Waits sig Ix} :
    iprop(Copying EC c src dst sm ι X ∗ owes c O W ∗ MayWait c (.dma sm) ι O)
      ⊢ iprop((iprop(owns c dst fullShare (src.view.read Val X) ∗ piece c src X ∗ semVal (c, .dma sm) 0
              ∗ owes c O (insert (SemLoc.dma sm, ι) W)) -∗ wp frame (wpE defs 𝒱 c bd) Set.univ (k ⟨⟩) Q)
          -∗ wp frame (wpE defs 𝒱 c bd) Set.univ (.op (.waitDma2 sm src dst hsrc hdst) k) Q) := by
  unfold Copying
  iintro ⟨⟨%fd, Hf⟩, HO, Hm⟩ Hk
  iapply (wp_waitLocalO EC 𝒱 c bd ι rfl) $$ [Hf HO Hm]
  · isplitl [Hf]; · iexact Hf
    isplitl [HO]; · iexact HO
    iexact Hm
  iintro ⟨⟨Hd, Hs⟩, Hv, HO⟩
  iapply Hk
  isplitl [Hd]
  · unfold owns
    iexists (dst.view.write Val fd (src.view.read Val X) Finset.univ)
    isplitr
    · ipureintro; exact View.read_write_univ _ _
    iexact Hd
  isplitl [Hs]; · iexact Hs
  isplitl [Hv]; · iexact Hv
  iexact HO

end Copies

/-! ## Loads and stores of one slot -/

section Slot

variable {Λ : Labels} {defs : Defs nD τ sig Val Λ} (𝒱 : Variants) (c : Thread nD τ)
  (bd : Option 𝒱.V) {α : Type} {Q : α → sProp (MT nD τ sig Ix Val ℕ U Lvl)}

variable {cs : CoreSpace} {s s' : Shape} {e : EltTy}

/-- The slot: the rectangle `r` of the buffer, its unit axis dropped. -/
abbrev slot (m : Memref sig c.2.kind cs s e) (r : Rect s) (hr : ∀ a, r.stride a = 1) (hq : r.shape.Squeezes s') :
    Memref sig c.2.kind cs s' e := (m.slice r hr).squeeze s' hq

/-- The slot's value with the unit axis put back: what a load through `r` reads. -/
def lifted {β : Type} {r : Shape} (hq : r.Squeezes s') (v : s'.Idx → β) : r.Idx → β :=
  fun j => v ((Shape.reshapeEquiv hq.numel_eq).symm j)

/-- A value of the rectangle's shape with the unit axis dropped: what a store through `r` leaves in the slot. -/
def lowered {β : Type} {r : Shape} (hq : r.Squeezes s') (w : r.Idx → β) : s'.Idx → β :=
  fun j => w (Shape.reshapeEquiv hq.numel_eq j)

theorem lowered_lifted {β : Type} {r : Shape} (hq : r.Squeezes s') (v : s'.Idx → β) : lowered hq (lifted hq v) = v := by
  funext j; unfold lowered lifted; rw [Equiv.symm_apply_apply]

/-- A load through the slot's rectangle. -/
theorem load_slot {m : Memref sig c.2.kind cs s e} {r : Rect s} {hr : ∀ a, r.stride a = 1} {hq : r.shape.Squeezes s'}
    {hl : m.view.LoadsAt r.toLoadRect} {k : (r.shape.Idx → Val e) → Prog (TpuEff nD τ sig Val Λ c.2) α} (v : s'.Idx → Val e) :
    (owns c ((m.slice r hr).squeeze s' hq) fullShare v : sProp 𝕄)
      ⊢ iprop((owns c ((m.slice r hr).squeeze s' hq) fullShare v -∗ wp frame (wpE defs 𝒱 c bd) Set.univ (k (lifted hq v)) Q)
        -∗ wp frame (wpE defs 𝒱 c bd) Set.univ (.op (.load m r.toLoadRect hl) k) Q) := by
  have hset : ((m.slice r hr).squeeze s' hq).view.set = m.view.setOn r.set := by
    exact (View.set_reshape _ _).trans (View.set_slice _ _)
  unfold owns
  iintro ⟨%f, %hf, H⟩ Hk
  have hread : m.view.readAt Val r.toLoadRect f = lifted hq v := by
    funext j
    rw [← hf]
    unfold lifted
    show m.view.readAt Val r.toLoadRect f j = (m.slice r hr).view.read Val f (Shape.reshapeEquiv _ ((Shape.reshapeEquiv hq.numel_eq).symm j))
    rw [Equiv.apply_symm_apply]
    rfl
  iapply (wp_load 𝒱 c bd Set.univ (m := m) (r := r.toLoadRect) (f := f) (S := ((m.slice r hr).squeeze s' hq).view.set) (by rw [hset])) $$ [H]
  · iexact H
  iintro H
  rw [hread]
  iapply Hk
  iexists f
  isplitr
  · ipureintro; exact hf
  iexact H

/-- A store through the slot's rectangle. -/
theorem store_slot {m : Memref sig c.2.kind cs s e} {r : Rect s} {hr : ∀ a, r.stride a = 1} {hq : r.shape.Squeezes s'}
    {w : r.shape.Idx → Val e} {hx : (m.access r).Stores Finset.univ} {hm : Finset.univ = Finset.univ ∨ ∀ a, r.stride a = 1}
    {k : PUnit → Prog (TpuEff nD τ sig Val Λ c.2) α} :
    (iprop(∃ v, owns c ((m.slice r hr).squeeze s' hq) fullShare v) : sProp 𝕄)
      ⊢ iprop((owns c ((m.slice r hr).squeeze s' hq) fullShare (lowered hq w) -∗ wp frame (wpE defs 𝒱 c bd) Set.univ (k ⟨⟩) Q)
        -∗ wp frame (wpE defs 𝒱 c bd) Set.univ (.op (.store m r w Finset.univ hx hm) k) Q) := by
  have hset : ((m.slice r hr).squeeze s' hq).view.set = (m.access r).setOn Finset.univ := by
    exact View.set_reshape _ _
  unfold owns
  iintro ⟨%v, %f, %hf, H⟩ Hk
  iapply (wp_store 𝒱 c bd Set.univ (m := m) (r := r) (Mk := Finset.univ) (f := f) (S := ((m.slice r hr).squeeze s' hq).view.set) (by rw [hset])) $$ [H]
  · iexact H
  iintro H
  iapply Hk
  iexists _
  isplitr
  rotate_left
  · iexact H
  · ipureintro
    funext j
    show (m.access r).read Val ((m.access r).write Val f w Finset.univ) (Shape.reshapeEquiv _ j) = w _
    rw [View.read_write_univ]

end Slot

end Cert.Slots

end
-- ==== Proof.Once.lean ====
/-
# Cells that are paid once

A family of semaphore cells, each of which gets a fixed number of units ONCE in the whole run, and each of which then
hands something to the device that waits on it. A member of the family has two ends: who waits on it holds its waiting
end, who pays it holds its paying end. This module proves, for any such family:

* a signal spends a paying end (`signal_end`), a transfer to another device spends two (`send_end`);
* a wait spends a waiting end: what was promised comes back, and the counter with it, at zero (`wait_end`);
* counters at zero make all the ends of the family at once (`ends_made`).
-/
module

public import Idealize.ShloMosaic.Lib.Rounds
public import Idealize.ShloMosaic.Lib.Memref
public import Idealize.ShloMosaic.Lib.Transfers
public import Idealize.ShloMosaic.Lib.Tactic
public import Mathlib.Logic.Function.Basic

@[expose] public section

noncomputable section

namespace Cert.Once

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U] {J : Type}

local notation "𝕄" => MT nD τ sig Unit Val ℕ U ℕ

/-- The cells, by a name of their own; what each is paid, and what it hands over. -/
structure Family (nD : Nat) (τ : Topo) (sig : RefSig) (Val : EltTy → Type) (U : Type) [URA U] (J : Type) where
  cell : J → GSem nD τ sig
  distinct : Function.Injective cell
  units : J → ℕ
  some_unit : ∀ j, 0 < units j
  gift : J → sProp (MT nD τ sig Unit Val ℕ U ℕ)
  keeps : ∀ j, BI.Storable (upEmb : UEmb _ (MT nD τ sig Unit Val ℕ U ℕ)) (gift j)

namespace Family

variable (A : Family nD τ sig Val U J)

/-- The name of a cell, if it is of the family. -/
def name (g : GSem nD τ sig) : Option J := Function.partialInv A.cell g

theorem name_cell (j : J) : A.name (A.cell j) = some j := Function.partialInv_left A.distinct j

/-- The family as rounds: a member has a round 0, with one duty in it, and nothing after. -/
def plan : Schedule (GSem nD τ sig) Unit 𝕄 where
  duties g r := if r = 0 then (A.name g).elim ∅ (fun _ => Finset.univ) else ∅
  amount g _ _ := (A.name g).elim 1 A.units
  payload g _ _ := (A.name g).elim iprop(emp) A.gift
  amount_pos g _ _ _ := by
    cases A.name g with
    | none => exact Nat.one_pos
    | some j => exact A.some_unit j

instance plan_storable (g : GSem nD τ sig) (r : ℕ) (d : Unit) : BI.Storable (upEmb : UEmb _ 𝕄) (A.plan.payload g r d) := by
  show BI.Storable upEmb ((A.name g).elim iprop(emp) A.gift)
  cases A.name g with
  | none => exact inferInstanceAs (BI.Storable upEmb iprop(emp))
  | some j => exact A.keeps j

theorem plan_duties (j : J) : A.plan.duties (A.cell j) 0 = Finset.univ := by simp only [plan, name_cell, if_true, Option.elim_some]
theorem plan_amount (j : J) (d : Unit) : A.plan.amount (A.cell j) 0 d = A.units j := by simp only [plan, name_cell, Option.elim_some]
theorem plan_gift (j : J) (d : Unit) : A.plan.payload (A.cell j) 0 d = A.gift j := by simp only [plan, name_cell, Option.elim_some]
theorem plan_total (j : J) : A.plan.expect (A.cell j) 0 = A.units j := by
  simp only [Schedule.expect, Schedule.amountOf, plan_duties, plan_amount, Finset.univ_unique, Finset.sum_singleton]
theorem plan_over (g : GSem nD τ sig) (r : ℕ) (hr : 0 + 1 ≤ r) : A.plan.duties g r = ∅ := if_neg (by omega)

/-! ## The two ends of a cell -/

variable (E : Emb (URounds (GSem nD τ sig) Unit) (MT nD τ sig Unit Val ℕ U ℕ)) (κ : J → ℕ)

/-- Held by the device that will wait on the cell. -/
def waitingEnd (j : J) : sProp 𝕄 := iprop(cellInv E A.plan (κ j) (A.cell j) ∗ atPos E (A.cell j) 0 ∅ 0)
/-- Held by the device that will pay it. -/
def payingEnd (j : J) : sProp 𝕄 :=
  iprop(cellInv E A.plan (κ j) (A.cell j) ∗ dutyTok E (A.cell j) 0 () ∗ reached E (A.cell j) 0)

section Rules

variable {Λ : Labels} {defs : Defs nD τ sig Val Λ} (𝒱 : Variants) (c : Thread nD τ)
  (bd : Option 𝒱.V) {α : Type} {Q : α → sProp (MT nD τ sig Unit Val ℕ U ℕ)}
variable [E.LandsIn (upEmb : UEmb _ (MT nD τ sig Unit Val ℕ U ℕ))]

/-- A signal: it pays a cell and hands its gift in. -/
theorem signal_end {k : PUnit → Prog (TpuEff nD τ sig Val Λ c.2) α} {d : Thread nD τ} {q : Sem sig} {n : ℕ} {W : Waits sig Unit}
    (O : CellTallies nD τ sig Unit) (j : J) (hj : A.cell j = (d, .reg q)) (hn : A.units j = n)
    (hr : τ.routes c d = true := by routes) :
    iprop(A.payingEnd E κ j ∗ A.gift j ∗ owes c (O + tallyAt (A.cell j) () (A.units j)) W)
      ⊢ iprop((owes c O W -∗ wp frame (wpE defs 𝒱 c bd) Set.univ (k ⟨⟩) Q)
          -∗ wp frame (wpE defs 𝒱 c bd) Set.univ (.op (.semSignal d q n) k) Q) := by
  unfold payingEnd
  rw [← A.plan_gift j (), hn]
  have hd := A.plan_duties j
  have ha := (A.plan_amount j ()).trans hn
  rw [hj] at hd ha ⊢
  iintro ⟨⟨HI, Ht, Hr⟩, Hg, HO⟩
  iapply (Rounds.wp_signal 𝒱 E A.plan c bd (κ := κ j) (by rw [hd]; exact Finset.mem_univ ()) ha () O rfl hr)
  isplitl [HI]; · iexact HI
  isplitl [HO]; · iexact HO
  isplitl [Ht]; · iexact Ht
  isplitl [Hg]; · iexact Hg
  iexact Hr

/-- A wait for all of a cell, by any operation that waits: the gift comes back, and the counter at zero. -/
theorem wait_end {k : PUnit → Prog (TpuEff nD τ sig Val Λ c.2) α} {w : TpuEff nD τ sig Val Λ c.2 PUnit} {s : SemLoc sig} {n : ℕ}
    (hw : ∀ K : PUnit → sProp 𝕄, wpE defs 𝒱 c bd Set.univ w K = waitSpec c Set.univ s n K) {W : Waits sig Unit}
    {O : CellTallies nD τ sig Unit} (j : J) (hj : A.cell j = (c, s)) (hn : A.units j = n) :
    iprop(A.waitingEnd E κ j ∗ cred (tallyAt (A.cell j) () (A.units j)) ∗ owes c O W ∗ MayWait c s () O)
      ⊢ iprop(((A.gift j ∗ semVal (A.cell j) 0 ∗ owes c O (insert (s, ()) W)) -∗ wp frame (wpE defs 𝒱 c bd) Set.univ (k ⟨⟩) Q)
          -∗ wp frame (wpE defs 𝒱 c bd) Set.univ (.op w k) Q) := by
  unfold waitingEnd
  have ht := (A.plan_total j).trans hn
  have hall : bigSep (A.plan.duties (A.cell j) 0 \ ∅) (fun d => A.plan.payload (A.cell j) 0 d) = A.gift j := by
    simp only [Finset.sdiff_empty, plan_duties, plan_gift, Finset.univ_unique, bigSep_singleton]
  rw [← hall, hn]
  rw [hj] at ht ⊢
  iintro ⟨⟨#HI, Hat⟩, Hc, HO, Hm⟩ Hk
  iapply (Rounds.wp_wait_rest_token 𝒱 E A.plan c bd (κ := κ j) hw (Set.mem_univ _) () (m := 0) (by rw [ht, Nat.zero_add])) $$ [Hc HO Hm Hat]
  · isplitr; · iexact HI
    isplitl [Hc]; · iexact Hc
    isplitl [HO]; · iexact HO
    isplitl [Hm]; · iexact Hm
    iexact Hat
  iintro ⟨HO, Hat, -, Hg⟩
  imod (Rounds.cell_close E A.plan (Set.mem_univ (κ j)) id (A.plan_over _)) $$ [Hat] with Hz
  · isplitr; · iexact HI
    iexact Hat
  iapply Hk
  isplitl [Hg]; · iexact Hg
  isplitl [Hz]; · iexact Hz
  iexact HO

/-- A transfer to another device: cell `i` of the sender gives the source back, cell `j` of the receiver gives the
    destination, holding what was sent. The sender gets the right to wait on `i`. -/
theorem send_end {sp sp' : Space} {sh : Shape} {e : EltTy} {c' : Thread nD τ} {src : Memref sig c.2.kind sp sh e}
    {dst : Memref sig c'.2.kind sp' sh e} {hsc : dst.view.ref.isScScratch = false} {sS sV : SemLoc sig}
    {hsrc : src.view.WordExact} {hdst : dst.view.WordExact} {hsem : DmaTarget.Typed sp sV (.remote c' dst sS hsc)}
    {k : PUnit → Prog (TpuEff nD τ sig Val Λ c.2) α} {W : Waits sig Unit} (O : CellTallies nD τ sig Unit)
    (v : sh.Idx → Val e) (i j : J) (hi : A.cell i = (c, sS)) (hj : A.cell j = (c', sV))
    (hui : A.units i = dst.view.amount sV) (huj : A.units j = dst.view.amount sV)
    (hgi : owns c src fullShare v ⊢ A.gift i) (hgj : owns c' dst fullShare v ⊢ A.gift j)
    (hr : τ.routes c c' = true := by routes) :
    iprop(A.payingEnd E κ i ∗ A.payingEnd E κ j ∗ owns c src fullShare v ∗ (∃ w, owns c' dst fullShare w)
        ∗ owes c (O + tallyAt (A.cell j) () (A.units j)) W)
      ⊢ iprop(((cred (tallyAt (A.cell i) () (A.units i)) ∗ owes c O W) -∗ wp frame (wpE defs 𝒱 c bd) Set.univ (k ⟨⟩) Q)
          -∗ wp frame (wpE defs 𝒱 c bd) Set.univ (.op (.enqueueDma src (.remote c' dst sS hsc) sV hsrc hdst hsem) k) Q) := by
  unfold payingEnd owns
  have hdi := A.plan_duties i
  have hdj := A.plan_duties j
  have hai := (A.plan_amount i ()).trans hui
  have haj := (A.plan_amount j ()).trans huj
  rw [← A.plan_gift i ()] at hgi
  rw [← A.plan_gift j ()] at hgj
  rw [hui, huj]
  rw [hi] at hdi hai hgi ⊢
  rw [hj] at hdj haj hgj ⊢
  iintro ⟨⟨HI, Hti, Hri⟩, ⟨HJ, Htj, Hrj⟩, ⟨%f, %hf, Hs⟩, ⟨%w, %g, -, Hd⟩, HO⟩
  have hsent : (src.view.loc c ↦[src.view.set]{fullShare} f : sProp 𝕄) ⊢ owns c src fullShare v := by
    unfold owns
    iintro H; iexists f
    isplitr; · ipureintro; exact hf
    iexact H
  have hcame : (dst.view.loc c' ↦[dst.view.set]{fullShare} (dst.view.write Val g (src.view.read Val f) Finset.univ) : sProp 𝕄)
      ⊢ owns c' dst fullShare v := by
    unfold owns
    iintro H; iexists _
    isplitr
    rotate_left
    · iexact H
    · ipureintro; rw [View.read_write_univ, hf]
  iapply (Rounds.wp_send_pointsTo 𝒱 E A.plan c bd (κ₁ := κ i) (κ₂ := κ j) (by rw [hdi]; exact Finset.mem_univ ())
    (by rw [hdj]; exact Finset.mem_univ ()) () () _ rfl hai haj O rfl (hsent.trans hgi) (hcame.trans hgj) hr)
  isplitl [HI]; · iexact HI
  isplitl [HJ]; · iexact HJ
  isplitl [Hs]; · iexact Hs
  isplitl [Hd]; · iexact Hd
  isplitl [HO]; · iexact HO
  isplitl [Hti]; · iexact Hti
  isplitl [Hri]; · iexact Hri
  isplitl [Htj]; · iexact Htj
  iexact Hrj

end Rules

/-! ## Making the ends -/

section Making

variable [Fintype J] [DecidableEq J]

/-- The cells as a set, and one duty for each. -/
def cells : Finset (GSem nD τ sig) := Finset.univ.map ⟨A.cell, A.distinct⟩
def duties : Finset (GSem nD τ sig × ℕ × Unit) :=
  Finset.univ.map ⟨fun j => (A.cell j, 0, ()), fun _ _ h => A.distinct (congrArg Prod.fst h)⟩

/-- What a cell is made from, besides its counter. -/
def seed (j : J) : sProp 𝕄 :=
  iprop(roundState E A.plan (A.cell j) 0 ∗ reached E (A.cell j) 0 ∗ atPos E (A.cell j) 0 ∅ 0 ∗ dutyTok E (A.cell j) 0 ())

theorem seeds : BI.own (E (Rounds.initOf A.cells A.duties)) ⊢ (|==> bigSep Finset.univ (A.seed E) : sProp 𝕄) := by
  have h := Rounds.fund E A.plan A.cells A.duties
  unfold cells duties at h
  simp only [bigSep_map] at h
  unfold cells duties seed
  rw [bigSep_sep', bigSep_sep', bigSep_sep']
  exact h

theorem end_made [E.LandsIn (upEmb : UEmb _ (MT nD τ sig Unit Val ℕ U ℕ))] (j : J) :
    iprop(semVal (A.cell j) 0 ∗ A.seed E j)
      ⊢ (|={Set.univ}=> ∃ n : ℕ, A.waitingEnd E (fun _ => n) j ∗ A.payingEnd E (fun _ => n) j : sProp 𝕄) := by
  unfold seed waitingEnd payingEnd
  iintro ⟨Hv, Hs, Hr, Ha, Ht⟩
  imod ((Rounds.body_intro E A.plan (A.cell j)).trans inv_alloc) $$ [Hv Hs] with ⟨%n, #HI⟩
  · isplitl [Hv]; · iexact Hv
    iexact Hs
  imodintro
  iexists n
  isplitl [Ha]
  · isplitr; · iexact HI
    iexact Ha
  isplitr; · iexact HI
  isplitl [Ht]; · iexact Ht
  iexact Hr

/-- All the ends of the family, from all its counters at zero. -/
theorem ends_made [E.LandsIn (upEmb : UEmb _ (MT nD τ sig Unit Val ℕ U ℕ))] :
    (bigSep Finset.univ fun j => iprop(semVal (A.cell j) 0 ∗ A.seed E j))
      ⊢ (|={Set.univ}=> ∃ κ : J → ℕ, bigSep Finset.univ (A.waitingEnd E κ) ∗ bigSep Finset.univ (A.payingEnd E κ) : sProp 𝕄) := by
  have hmade : (bigSep Finset.univ fun j => iprop(semVal (A.cell j) 0 ∗ A.seed E j))
      ⊢ (|={Set.univ}=> bigSep Finset.univ fun j => iprop(∃ n : ℕ, A.waitingEnd E (fun _ => n) j ∗ A.payingEnd E (fun _ => n) j) : sProp 𝕄) :=
    (bigSep_mono fun j _ => A.end_made E j).trans (bigSep_fupd _ _)
  iintro H
  imod hmade $$ H with H
  imodintro
  ihave H := (BI.bigSep_exists_pi Finset.univ fun (j : J) (n : ℕ) => iprop(A.waitingEnd E (fun _ => n) j ∗ A.payingEnd E (fun _ => n) j)) $$ H
  icases H with ⟨%κ, H⟩
  iexists κ
  iapply (Entails.of_eq (bigSep_sep' Finset.univ (A.waitingEnd E κ) (A.payingEnd E κ)))
  iexact H

end Making

end Family

end Cert.Once

end
-- ==== Proof.Protocol.lean ====
/-
# The exchange: who signals, who waits, what each landing hands over

Sixteen devices sit on a 2 × 2 × 4 mesh; the kernel exchanges along the middle axis only, so a device has ONE partner,
`mate`, and is its partner's partner. The run of one device `c`:

* it signals `mate c`'s barrier semaphore once, BEFORE anything else. With that signal it gives its own landing slot
  (the second slot of the exchange buffer) away to `mate c`, which will copy into it;
* it stages its rows of `x` and `dy` by four local copies, two slots each, and sums up its own two rows of the result
  (`part`), which it stores in the first slot of the exchange buffer;
* it waits for one unit on its own barrier semaphore: `mate c`'s landing slot is now its own to write;
* it copies its first slot into that landing slot, waits on its send semaphore (the first slot comes back, unchanged)
  and on its receive semaphore (its own landing slot comes back, holding `part (mate c)`);
* it adds the two slots.

So there are three cells a device, each paid once: `ready` (the partner's signal, one unit), `sent` (the device's own
transfer, having left) and `came` (the partner's transfer, having landed). The rules for such cells are `Once`'s; this
module says which cells there are and what they hand over. The four cells of the local copies are not part of the
exchange: a device keeps their counters itself.

A device owes its partner two payments at launch, `ready` and `came`, and none of `sent` (it owes that to itself and waits
on it only after the transfer). Waits go by height: a device may wait on a cell while all it still owes is on higher ones.
`came` is highest, then `ready`, then all the others.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Slots
public import proofs.«01_k».proof.Proof.Once
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the exchange's cells, the local copies' counters -/

abbrev UX : Type := URounds (GSem nD τ sig) Unit
abbrev UU : Type := UR sig nD τ × (UX × Counters)

local notation "𝕄" => MT nD τ sig Unit (Elt F) ℕ UU ℕ

/-- Where the pipeline's cells live. -/
abbrev EP : Emb (UR sig nD τ) (MT nD τ sig Unit (Elt F) ℕ UU ℕ) := embL
/-- Where the exchange's cells live. -/
def EX : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance EX_landsIn : (EX : Emb UX 𝕄).LandsIn (upEmb : UEmb _ 𝕄) := by unfold EX; infer_instance
/-- Where the local copies' counters live. -/
abbrev EC : UEmb Counters (MT nD τ sig Unit (Elt F) ℕ UU ℕ) := countersEmb

abbrev 𝒱₀ : Variants := Variants.none

variable (m : (ℓ : Loc nD τ sig) → Buf (Elt F) ℓ)

/-! ## Partners -/

set_option backward.proofsInPublic true in
/-- The device across the middle axis of the mesh. -/
def mate (c : Dev nD) : Dev nD :=
  ⟨(8 * (c.val / 8) + (c.val % 4) + 4) - 4 * ((c.val / 4) % 2), by have h : c.val < 16 := c.isLt; show _ < 16; omega⟩

theorem mate_mate (c : Dev nD) : mate (mate c) = c := by revert c; decide
/-- The signal and the transfer both name the partner. -/
theorem dev1_eq (c : Dev nD) : (⟨k0_dev1 c, k0_dev1_lt c⟩ : Dev nD) = mate c := Fin.ext (k0_dev1_eq c)
theorem dev2_eq (c : Dev nD) : (⟨k0_dev2 c, k0_dev2_lt c⟩ : Dev nD) = mate c := Fin.ext (k0_dev2_eq c)
def mates : Dev nD ≃ Dev nD := ⟨mate, mate, mate_mate, mate_mate⟩

/-! ## The buffers' pieces -/

/-- The operands, the two staging scratches, the exchange buffer, the result's block. -/
abbrev xM : Memref sig .tc .hbm S512x512 .f32 := Memref.whole main_arg0
abbrev gM : Memref sig .tc .hbm S512x512 .f32 := Memref.whole main_arg1
abbrev xB : Memref sig .tc .vmem S2x256x512 .f32 := Memref.whole cc0_scratch0
abbrev gB : Memref sig .tc .vmem S2x256x512 .f32 := Memref.whole cc0_scratch1
abbrev eB : Memref sig .tc .vmem S2x2x512 .f32 := Memref.whole cc0_scratch4
abbrev oB : Memref sig .tc .vmem S2x512 .f32 := Memref.whole cc0_stg0_0

/-- An operand's upper and lower half; -/
abbrev rH0 : Rect S512x512 := Rect.unit (s := S512x512) ![0, 0] S256x512.size inb_S512x512_S256x512_0_0
abbrev rH1 : Rect S512x512 := Rect.unit (s := S512x512) ![256, 0] S256x512.size inb_S512x512_S256x512_256_0
/-- a staging scratch's first and second slot; -/
abbrev rS0 : Rect S2x256x512 := Rect.unit (s := S2x256x512) ![0, 0, 0] S1x256x512.size inb_S2x256x512_S1x256x512_0_0_0
abbrev rS1 : Rect S2x256x512 := Rect.unit (s := S2x256x512) ![1, 0, 0] S1x256x512.size inb_S2x256x512_S1x256x512_1_0_0
/-- the exchange buffer's. -/
abbrev rE0 : Rect S2x2x512 := Rect.unit (s := S2x2x512) ![0, 0, 0] S1x2x512.size inb_S2x2x512_S1x2x512_0_0_0
abbrev rE1 : Rect S2x2x512 := Rect.unit (s := S2x2x512) ![1, 0, 0] S1x2x512.size inb_S2x2x512_S1x2x512_1_0_0

abbrev xH0 : Memref sig .tc .hbm S256x512 .f32 := xM.slice rH0 (fun _ => rfl)
abbrev xH1 : Memref sig .tc .hbm S256x512 .f32 := xM.slice rH1 (fun _ => rfl)
abbrev gH0 : Memref sig .tc .hbm S256x512 .f32 := gM.slice rH0 (fun _ => rfl)
abbrev gH1 : Memref sig .tc .hbm S256x512 .f32 := gM.slice rH1 (fun _ => rfl)
abbrev xS0 : Memref sig .tc .vmem S256x512 .f32 := (xB.slice rS0 (fun _ => rfl)).squeeze S256x512 squeezes_S1x256x512_S256x512
abbrev xS1 : Memref sig .tc .vmem S256x512 .f32 := (xB.slice rS1 (fun _ => rfl)).squeeze S256x512 squeezes_S1x256x512_S256x512
abbrev gS0 : Memref sig .tc .vmem S256x512 .f32 := (gB.slice rS0 (fun _ => rfl)).squeeze S256x512 squeezes_S1x256x512_S256x512
abbrev gS1 : Memref sig .tc .vmem S256x512 .f32 := (gB.slice rS1 (fun _ => rfl)).squeeze S256x512 squeezes_S1x256x512_S256x512
abbrev eS0 : Memref sig .tc .vmem S2x512 .f32 := (eB.slice rE0 (fun _ => rfl)).squeeze S2x512 squeezes_S1x2x512_S2x512
abbrev eS1 : Memref sig .tc .vmem S2x512 .f32 := (eB.slice rE1 (fun _ => rfl)).squeeze S2x512 squeezes_S1x2x512_S2x512

/-- Each pair has every element of its buffer once. -/
theorem xH_apart : Apart (xH0 : Memref sig .tc .hbm S256x512 .f32).view.set (xH1 : Memref sig .tc .hbm S256x512 .f32).view.set :=
  apart_slices main_arg0 (apart_along (s := S512x512) 0 _ _ (by decide) (by decide))
theorem gH_apart : Apart (gH0 : Memref sig .tc .hbm S256x512 .f32).view.set (gH1 : Memref sig .tc .hbm S256x512 .f32).view.set :=
  apart_slices main_arg1 (apart_along (s := S512x512) 0 _ _ (by decide) (by decide))
theorem xS_apart : Apart (xS0 : Memref sig .tc .vmem S256x512 .f32).view.set (xS1 : Memref sig .tc .vmem S256x512 .f32).view.set :=
  apart_slots cc0_scratch0 (apart_along (s := S2x256x512) 0 _ _ (by decide) (by decide))
theorem gS_apart : Apart (gS0 : Memref sig .tc .vmem S256x512 .f32).view.set (gS1 : Memref sig .tc .vmem S256x512 .f32).view.set :=
  apart_slots cc0_scratch1 (apart_along (s := S2x256x512) 0 _ _ (by decide) (by decide))
theorem eS_apart : Apart (eS0 : Memref sig .tc .vmem S2x512 .f32).view.set (eS1 : Memref sig .tc .vmem S2x512 .f32).view.set :=
  apart_slots cc0_scratch4 (apart_along (s := S2x2x512) 0 _ _ (by decide) (by decide))

/-! ## The cells -/

/-- The local copies' cells: `x`'s two slots, `dy`'s two slots. -/
abbrev xQ0 : DmaSems sig S_ := (cc0_scratch2.slice (Rect.unit (s := S2) ![0] S1.size inb_S2_S1_0)).squeeze S_ squeezes_S1_S_
abbrev xQ1 : DmaSems sig S_ := (cc0_scratch2.slice (Rect.unit (s := S2) ![1] S1.size inb_S2_S1_1)).squeeze S_ squeezes_S1_S_
abbrev gQ0 : DmaSems sig S_ := (cc0_scratch3.slice (Rect.unit (s := S2) ![0] S1.size inb_S2_S1_0)).squeeze S_ squeezes_S1_S_
abbrev gQ1 : DmaSems sig S_ := (cc0_scratch3.slice (Rect.unit (s := S2) ![1] S1.size inb_S2_S1_1)).squeeze S_ squeezes_S1_S_

/-- The three steps of the exchange a device can wait for. -/
inductive Leg
  /-- its partner has signalled: the partner's landing slot may be written; -/
  | ready
  /-- its own transfer has left: its first slot may be used again; -/
  | sent
  /-- its partner's transfer has landed. -/
  | came
  deriving DecidableEq

instance : Fintype Leg := ⟨{.ready, .sent, .came}, fun l => by cases l <;> decide⟩

/-- The semaphore of a step, -/
def Leg.sem : Leg → SemLoc sig
  | .ready => .reg (SemArray.scalar (sig.barrier 0 rfl) : Sems sig S_).sem
  | .sent => .dma cc0_scratch5.sem
  | .came => .dma cc0_scratch6.sem
/-- the units it is paid (a signal's one, or what a slot's transfer counts), -/
def Leg.units : Leg → ℕ
  | .ready => 1
  | _ => (eS1 : Memref sig .tc .vmem S2x512 .f32).view.dmaCredit
/-- and the device that device `c` pays it to. -/
def Leg.payee (c : Dev nD) : Leg → Dev nD
  | .sent => c
  | _ => mate c

theorem Leg.payee_payee (l : Leg) (c : Dev nD) : l.payee (l.payee c) = c := by cases l <;> first | exact mate_mate c | rfl
theorem Leg.sem_inj : Function.Injective Leg.sem := by decide

/-- The cell of a step on a device. -/
abbrev place (j : Dev nD × Leg) : GSem nD τ sig := ((j.1 : Thread nD τ), j.2.sem)

theorem place_inj : Function.Injective place := by
  rintro ⟨c, l⟩ ⟨d, k⟩ h
  obtain ⟨h₁, h₂⟩ := Prod.mk.inj h
  obtain rfl : l = k := Leg.sem_inj h₂
  obtain rfl : c = d := (Prod.mk.inj h₁).1
  rfl

/-- One thing for each of the three steps. -/
theorem all_legs (Φ : Leg → sProp 𝕄) : bigSep Finset.univ Φ = iprop(Φ .ready ∗ Φ .sent ∗ Φ .came) :=
  bigSep_univ_eq_bigSepL [Leg.ready, Leg.sent, Leg.came] (by decide) (by decide) Φ

/-! ## Contents -/

/-- What a load of a staging slot holding `v` reads, and of an exchange slot. -/
abbrev up (v : FVec F S256x512 .f32) : Vec F S1x256x512 .f32 := lifted (r := S1x256x512) squeezes_S1x256x512_S256x512 v
abbrev upE (v : FVec F S2x512 .f32) : Vec F S1x2x512 .f32 := lifted (r := S1x2x512) squeezes_S1x2x512_S2x512 v

/-- The two halves of `x` and of `dy` on device `c`. -/
def xAt0 (c : Dev nD) : FVec F S256x512 .f32 := (xH0 : Memref sig .tc .hbm S256x512 .f32).view.read (Elt F) (m ((c : Thread nD τ).loc main_arg0))
def xAt1 (c : Dev nD) : FVec F S256x512 .f32 := (xH1 : Memref sig .tc .hbm S256x512 .f32).view.read (Elt F) (m ((c : Thread nD τ).loc main_arg0))
def gAt0 (c : Dev nD) : FVec F S256x512 .f32 := (gH0 : Memref sig .tc .hbm S256x512 .f32).view.read (Elt F) (m ((c : Thread nD τ).loc main_arg1))
def gAt1 (c : Dev nD) : FVec F S256x512 .f32 := (gH1 : Memref sig .tc .hbm S256x512 .f32).view.read (Elt F) (m ((c : Thread nD τ).loc main_arg1))

/-- The two rows a device sums up from two halves of `x` and of `dy`: as stored, -/
def sums (x0 x1 g0 g1 : FVec F S256x512 .f32) : FVec F S1x2x512 .f32 :=
  k0_pay9 (k0_pay6 k0_pay1 (k0_pay3 (up x0)) (k0_pay4 (up g0)) (k0_pay5 (up x0))) (k0_pay7 k0_pay2 (k0_pay4 (up g0)))
    (k0_pay8 (up x1)) (up g1)
/-- and as the first exchange slot of device `c` then holds them. -/
def part (c : Dev nD) : FVec F S2x512 .f32 :=
  lowered (r := S1x2x512) squeezes_S1x2x512_S2x512 (sums (xAt0 m c) (xAt1 m c) (gAt0 m c) (gAt1 m c))

/-- The result: the device's own rows plus its partner's. -/
def outAt (c : Dev nD) : (cc0_stg0_0 : Ref sig .tc).ty.Contents (Elt F) := k0_pay10 (upE (part m c)) (upE (part m (mate c)))

/-! ## What the cells hand over -/

/-- What device `c` gets at each step. -/
def gift (c : Dev nD) : Leg → sProp 𝕄
  | .ready => iprop(∃ v, owns (mate c : Thread nD τ) (eS1 : Memref sig .tc .vmem S2x512 .f32) fullShare v)
  | .sent => owns (c : Thread nD τ) (eS0 : Memref sig .tc .vmem S2x512 .f32) fullShare (part m c)
  | .came => owns (c : Thread nD τ) (eS1 : Memref sig .tc .vmem S2x512 .f32) fullShare (part m (mate c))

/-- The exchange. -/
def exch : Once.Family nD τ sig (Elt F) UU (Dev nD × Leg) where
  cell := place
  distinct := place_inj
  units j := j.2.units
  some_unit j := by
    have h := View.dmaCredit_pos (eS1 : Memref sig .tc .vmem S2x512 .f32).view (by decide)
    rcases j with ⟨c, _ | _ | _⟩
    · exact Nat.one_pos
    · exact h
    · exact h
  gift j := gift m j.1 j.2
  keeps j := by
    rcases j with ⟨c, _ | _ | _⟩ <;> unfold gift <;> infer_instance

theorem gift_ready (c : Dev nD) : (exch m).gift (mate c, .ready)
    = iprop(∃ v, owns (c : Thread nD τ) (eS1 : Memref sig .tc .vmem S2x512 .f32) fullShare v) := by
  show gift m (mate c) .ready = _
  unfold gift; rw [mate_mate]
theorem gift_came (c : Dev nD) : (exch m).gift (mate c, .came)
    = owns (mate c : Thread nD τ) (eS1 : Memref sig .tc .vmem S2x512 .f32) fullShare (part m c) := by
  show gift m (mate c) .came = _
  unfold gift; rw [mate_mate]

/-! ## What is owed, and which waits that allows -/

/-- What device `c` owes while the steps of `S` are still to be paid. -/
def debt (S : Finset Leg) (c : Dev nD) : CellTallies nD τ sig Unit := ∑ l ∈ S, tallyAt (place (l.payee c, l)) () l.units

theorem debt_ready (c : Dev nD) : debt {.ready, .came} c = debt {.came} c + tallyAt (place (mate c, .ready)) () Leg.ready.units := by
  unfold debt; rw [Finset.sum_insert (by decide), add_comm]; rfl
theorem debt_came (c : Dev nD) : debt {.came} c = 0 + tallyAt (place (mate c, .came)) () Leg.came.units := by
  unfold debt; rw [Finset.sum_singleton, zero_add]; rfl
theorem debt_none (c : Dev nD) : debt ∅ c = 0 := Finset.sum_empty

/-- How high a semaphore stands. -/
def height (s : SemLoc sig) : ℕ := if s = Leg.came.sem then 2 else if s = Leg.ready.sem then 1 else 0

/-- Every cell of the devices' own has a level, its semaphore's height. -/
def levelled (g : GSem nD τ sig) : Finset Unit := Finset.univ.filter fun _ => g.1.2 = .tc
def level (g : GSem nD τ sig) (_ : Unit) : ℕ := height g.2
abbrev levels : sProp 𝕄 := levAts levelled level

theorem mem_levelled {g : GSem nD τ sig} {u : Unit} : Iff (u ∈ levelled g) (g.1.2 = .tc) :=
  (Finset.mem_filter).trans (and_iff_right (Finset.mem_univ u))

/-- A wait is allowed below all that is still owed. -/
theorem may_wait (c : Dev nD) (s : SemLoc sig) (S : Finset Leg) (h : ∀ l ∈ S, height s < height l.sem) :
    (levels : sProp 𝕄) ⊢ MayWait (c : Thread nD τ) s () (debt S c) :=
  Pipeline.mayWait_of_levAts (mem_levelled.mpr rfl) fun g u hg => by
    obtain ⟨l, hl, hp⟩ := Pipeline.sum_pos_exists hg
    obtain ⟨rfl, -⟩ := Pipeline.tallyAt_pos hp
    exact ⟨mem_levelled.mpr rfl, h l hl⟩

/-! ## What a device starts from and ends with -/

/-- Its ends of the exchange: it waits for all three of its own steps, and pays its partner's `ready` and `came` and its own
    `sent`. -/
def ends (κ : Dev nD × Leg → ℕ) (c : Dev nD) : sProp 𝕄 :=
  iprop((bigSep Finset.univ fun l => (exch m).waitingEnd EX κ (c, l)) ∗ bigSep Finset.univ fun l => (exch m).payingEnd EX κ (Leg.payee c l, l))

/-- The right to wait for the steps of `S`, which others pay. -/
def claims (S : Finset Leg) (c : Dev nD) : sProp 𝕄 := bigSep S fun l => cred (tallyAt (place (c, l)) () l.units)

theorem claims_both (c : Dev nD) : (claims {.ready, .came} c : sProp 𝕄)
    = iprop(cred (tallyAt (place (c, .ready)) () Leg.ready.units) ∗ cred (tallyAt (place (c, .came)) () Leg.came.units)) := by
  unfold claims; rw [bigSep_insert (by decide), bigSep_singleton]; rfl

/-- The four local cells at zero. -/
def locals (c : Dev nD) : sProp 𝕄 :=
  iprop(semVal ((c : Thread nD τ), .dma xQ0.sem) 0 ∗ semVal ((c : Thread nD τ), .dma xQ1.sem) 0
    ∗ semVal ((c : Thread nD τ), .dma gQ0.sem) 0 ∗ semVal ((c : Thread nD τ), .dma gQ1.sem) 0)

/-- The two operands it reads, whole, as launched. -/
def opnds (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- All a device starts from, besides its scratch buffers. -/
def start (c : Dev nD) : sProp 𝕄 :=
  iprop((∃ κ, ends m κ c) ∗ locals c ∗ opnds m c ∗ claims {.ready, .came} c ∗ levels)

/-- Its scratch buffers, each whole at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch4), ((c : Thread nD τ).loc cc0_scratch4) ↦{fullShare} f))

/-- All it ends with: the operands unchanged, the scratch buffers, every cell it used at zero. -/
def finish (c : Dev nD) : sProp 𝕄 :=
  iprop(opnds m c ∗ scratch c ∗ locals c ∗ bigSep Finset.univ fun l : Leg => semVal (place (c, l)) 0)

end Cert.Exchange

end
-- ==== Proof.Body.lean ====
/-
# One device's run of the kernel body

The body is followed effect by effect, in program order, over the exchange of `Protocol`: from what a device starts
with, its buffers in pieces (`inPieces`), to what it ends with and the result's block holding `outAt` (`body_run`). Then
the same from the buffers whole (`body_obligation`), in the form the launch asks for.
-/
module

public import proofs.«01_k».proof.Proof.Protocol
public import proofs.«01_k».proof.Proof.Gen.KernelIdeal.Points

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one window, the result's block, written once -/

def dats (_ : Fin 1) (c : Dev nD) : Dat τ (Elt F) Unit ℕ UU ℕ cfg0 c where
  q _ := fullShare
  A w := m ((cfg0.win w).arr.view.loc (c : Thread nD τ))
  Φ t := if t.val = 0 then iprop(start m c ∗ scratch c) else finish m c
  owed t := debt (if t.val = 0 then {.ready, .came} else ∅) c
  after w _ := match w with
    | ⟨0, _⟩ => outAt m c

/-- The result's block, held at a value. -/
abbrev result (c : Dev nD) (v : (cc0_stg0_0 : Ref sig .tc).ty.Contents (Elt F)) : sProp 𝕄 := owns (c : Thread nD τ) oB fullShare v

/-! ## The buffers in pieces -/

section Pieces
variable (c : Dev nD)

/-- The operands' halves. -/
def halves : sProp 𝕄 :=
  iprop(piece (c : Thread nD τ) xH0 (m ((c : Thread nD τ).loc main_arg0)) ∗ piece (c : Thread nD τ) xH1 (m ((c : Thread nD τ).loc main_arg0))
    ∗ piece (c : Thread nD τ) gH0 (m ((c : Thread nD τ).loc main_arg1)) ∗ piece (c : Thread nD τ) gH1 (m ((c : Thread nD τ).loc main_arg1)))

theorem opnds_cut : (opnds m c : sProp 𝕄) ⊢ halves m c := by
  unfold opnds halves
  iintro ⟨Hx, Hg⟩
  ihave Hx2 := (cut_two xH_apart _) $$ Hx
  ihave Hg2 := (cut_two gH_apart _) $$ Hg
  icases Hx2 with ⟨H0, H1⟩
  icases Hg2 with ⟨H2, H3⟩
  isplitl [H0]; · iexact H0
  isplitl [H1]; · iexact H1
  isplitl [H2]; · iexact H2
  iexact H3
theorem opnds_join : (halves m c : sProp 𝕄) ⊢ opnds m c := by
  unfold opnds halves
  iintro ⟨H0, H1, H2, H3⟩
  isplitl [H0 H1]
  · iapply (join_two xH_apart _)
    isplitl [H0]; · iexact H0
    iexact H1
  · iapply (join_two gH_apart _)
    isplitl [H2]; · iexact H2
    iexact H3

/-- One slot at some value. -/
abbrev anySlot {sp : Space} {s : Shape} (M : Memref sig .tc sp s .f32) : sProp 𝕄 := iprop(∃ v, owns (c : Thread nD τ) M fullShare v)

/-- The scratch buffers' slots. -/
def slots : sProp 𝕄 :=
  iprop(anySlot c xS0 ∗ anySlot c xS1 ∗ anySlot c gS0 ∗ anySlot c gS1 ∗ anySlot c eS0 ∗ anySlot c eS1)

theorem scratch_cut : (scratch c : sProp 𝕄) ⊢ slots c := by
  unfold scratch slots anySlot owns
  iintro ⟨⟨%f, Hx⟩, ⟨%g, Hg⟩, ⟨%e, He⟩⟩
  ihave Hx2 := (cut_two xS_apart _) $$ Hx
  ihave Hg2 := (cut_two gS_apart _) $$ Hg
  ihave He2 := (cut_two eS_apart _) $$ He
  icases Hx2 with ⟨H0, H1⟩
  icases Hg2 with ⟨H2, H3⟩
  icases He2 with ⟨H4, H5⟩
  isplitl [H0]; · (iexists _; iexists f; isplitr; · (ipureintro; rfl)); iexact H0
  isplitl [H1]; · (iexists _; iexists f; isplitr; · (ipureintro; rfl)); iexact H1
  isplitl [H2]; · (iexists _; iexists g; isplitr; · (ipureintro; rfl)); iexact H2
  isplitl [H3]; · (iexists _; iexists g; isplitr; · (ipureintro; rfl)); iexact H3
  isplitl [H4]; · (iexists _; iexists e; isplitr; · (ipureintro; rfl)); iexact H4
  (iexists _; iexists e; isplitr; · (ipureintro; rfl)); iexact H5

theorem scratch_join : (slots c : sProp 𝕄) ⊢ scratch c := by
  unfold scratch slots anySlot owns
  iintro ⟨⟨%v0, %f0, -, H0⟩, ⟨%v1, %f1, -, H1⟩, ⟨%v2, %f2, -, H2⟩, ⟨%v3, %f3, -, H3⟩, ⟨%v4, %f4, -, H4⟩, ⟨%v5, %f5, -, H5⟩⟩
  isplitl [H0 H1]
  · iapply (join_two_any xS_apart f0 f1)
    isplitl [H0]; · iexact H0
    iexact H1
  isplitl [H2 H3]
  · iapply (join_two_any gS_apart f2 f3)
    isplitl [H2]; · iexact H2
    iexact H3
  · iapply (join_two_any eS_apart f4 f5)
    isplitl [H4]; · iexact H4
    iexact H5

end Pieces

/-! ## The body -/

section Run

variable (κ : Dev nD × Leg → ℕ)

abbrev rO : Rect S2x512 := Rect.unit (s := S2x512) ![0, 0] S2x512.size inb_S2x512_S2x512_0_0

/-- A store over all of the result's block leaves what was stored. -/
theorem stored (f w : (cc0_stg0_0 : Ref sig .tc).ty.Contents (Elt F)) :
    (oB : Memref sig .tc .vmem S2x512 .f32).view.read (Elt F)
      (((oB : Memref sig .tc .vmem S2x512 .f32).access rO : View sig .tc _ _ _).write (Elt F) f w Finset.univ) = w := by
  have h := Memref.write_access_unit_zero_univ (Elt F) cc0_stg0_0 (show (![0, 0] : Fin 2 → ℕ) = fun _ => 0 by decide)
    inb_S2x512_S2x512_0_0 f w
  exact h

/-- The result's block by its elements. -/
theorem result_elements (c : Dev nD) (v : (cc0_stg0_0 : Ref sig .tc).ty.Contents (Elt F)) :
    (result c v : sProp 𝕄) ⊢ iprop(∃ f : Buf (Elt F) ((c : Thread nD τ).loc cc0_stg0_0), ((c : Thread nD τ).loc cc0_stg0_0) ↦{fullShare} f) := by
  unfold result owns
  rw [show (oB : Memref sig .tc .vmem S2x512 .f32).view.set = Finset.univ from View.set_whole _]
  iintro ⟨%f, -, H⟩
  iexists f; iexact H

/-- The landing slot of a device, named either way. -/
theorem landing {n d : Dev nD} (h : n = d) (v : FVec F S2x512 .f32) :
    (owns (n : Thread nD τ) (eS1 : Memref sig .tc .vmem S2x512 .f32) fullShare v : sProp 𝕄)
      = owns (d : Thread nD τ) (eS1 : Memref sig .tc .vmem S2x512 .f32) fullShare v := by rw [h]

/-- What the device starts from, the names of its cells given and its buffers cut up. -/
def inPieces (c : Dev nD) : sProp 𝕄 :=
  iprop(ends m κ c ∗ claims {.ready, .came} c ∗ levels ∗ locals c ∗ halves m c ∗ slots c)

set_option maxHeartbeats 1600000 in
/-- The body, one rule per effect, in program order. -/
theorem body_run (c : Dev nD) (Kt : PUnit → sProp 𝕄) :
    iprop(inPieces m κ c ∗ (dats m 0 c).owesAt () t0_0.castSucc ∗ (∃ v, result c v)
        ∗ ((finish m c ∗ (dats m 0 c).owesAt () t0_0.succ ∗ result c (outAt m c)) -∗ Kt ⟨⟩))
      ⊢ wp frame (wpE (defs₀ (F := F)) 𝒱₀ c none) Set.univ
          (cc0_body (Memref.whole main_arg0) (Memref.isWhole_whole _) (Memref.whole main_arg1) (Memref.isWhole_whole _)
            (Memref.whole main_arg2) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 (Memref.whole cc0_scratch4) (Memref.isWhole_whole _) cc0_scratch5 cc0_scratch6) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [dev1_eq c]
  unfold inPieces ends locals halves slots anySlot result
  rw [all_legs, all_legs, claims_both]
  iintro ⟨⟨⟨⟨Hready, Hsent, Hcame⟩, ⟨HpayR, HpayS, HpayC⟩⟩, ⟨HcR, HcC⟩, #Hlev, ⟨Hqx0, Hqx1, Hqg0, Hqg1⟩, ⟨Hx0, Hx1, Hg0, Hg1⟩,
      ⟨Hsx0, Hsx1, Hsg0, Hsg1, He0, He1⟩⟩, Ho, ⟨%v0, Hout⟩, Hk⟩
  unfold Dat.owesAt Pipeline.owesWithin
  icases Ho with ⟨%W, %hW, HO⟩
  rw [show (dats m 0 c).owed t0_0.castSucc = debt {.ready, .came} c from rfl, debt_ready]
  -- the signal to the partner, with the landing slot
  iapply ((exch m).signal_end EX κ 𝒱₀ (c : Thread nD τ) none (debt {.came} c) (mate c, .ready) rfl rfl) $$ [HpayR He1 HO]
  · isplitl [HpayR]; · iexact HpayR
    isplitl [He1]
    · rw [gift_ready]; iexact He1
    iexact HO
  iintro HO
  -- `x`'s upper half into its first slot
  iapply (copy_start EC 𝒱₀ (c : Thread nD τ) none (src := xH0) (dst := xS0) (sm := xQ0.sem) () (View.dmaCredit_pos _ (by decide))
      (m ((c : Thread nD τ).loc main_arg0))) $$ [Hx0 Hsx0 Hqx0]
  · isplitl [Hx0]; · iexact Hx0
    isplitl [Hsx0]; · iexact Hsx0
    iexact Hqx0
  iintro Hc0
  -- `dy`'s
  iapply (copy_start EC 𝒱₀ (c : Thread nD τ) none (src := gH0) (dst := gS0) (sm := gQ0.sem) () (View.dmaCredit_pos _ (by decide))
      (m ((c : Thread nD τ).loc main_arg1))) $$ [Hg0 Hsg0 Hqg0]
  · isplitl [Hg0]; · iexact Hg0
    isplitl [Hsg0]; · iexact Hsg0
    iexact Hqg0
  iintro Hc1
  -- `x`'s lower half into its second slot
  iapply (copy_start EC 𝒱₀ (c : Thread nD τ) none (src := xH1) (dst := xS1) (sm := xQ1.sem) () (View.dmaCredit_pos _ (by decide))
      (m ((c : Thread nD τ).loc main_arg0))) $$ [Hx1 Hsx1 Hqx1]
  · isplitl [Hx1]; · iexact Hx1
    isplitl [Hsx1]; · iexact Hsx1
    iexact Hqx1
  iintro Hc2
  -- `dy`'s
  iapply (copy_start EC 𝒱₀ (c : Thread nD τ) none (src := gH1) (dst := gS1) (sm := gQ1.sem) () (View.dmaCredit_pos _ (by decide))
      (m ((c : Thread nD τ).loc main_arg1))) $$ [Hg1 Hsg1 Hqg1]
  · isplitl [Hg1]; · iexact Hg1
    isplitl [Hsg1]; · iexact Hsg1
    iexact Hqg1
  iintro Hc3
  -- the first two copies have landed
  iapply (copy_wait EC 𝒱₀ (c : Thread nD τ) none (src := xH0) (dst := xS0) (sm := xQ0.sem) ()
      (m ((c : Thread nD τ).loc main_arg0)) (O := debt {.came} c)) $$ [Hc0 HO]
  · isplitl [Hc0]; · iexact Hc0
    isplitl [HO]; · iexact HO
    iapply (may_wait c (.dma xQ0.sem) {.came} (by decide)); iexact Hlev
  iintro ⟨Hsx0, Hx0, Hqx0, HO⟩
  iapply (copy_wait EC 𝒱₀ (c : Thread nD τ) none (src := gH0) (dst := gS0) (sm := gQ0.sem) ()
      (m ((c : Thread nD τ).loc main_arg1)) (O := debt {.came} c)) $$ [Hc1 HO]
  · isplitl [Hc1]; · iexact Hc1
    isplitl [HO]; · iexact HO
    iapply (may_wait c (.dma gQ0.sem) {.came} (by decide)); iexact Hlev
  iintro ⟨Hsg0, Hg0, Hqg0, HO⟩
  -- their values
  iapply (load_slot 𝒱₀ (c : Thread nD τ) none (m := xB) (r := rS0) (hr := fun _ => rfl) (hq := squeezes_S1x256x512_S256x512) (xAt0 m c)) $$ [Hsx0]
  · iexact Hsx0
  iintro Hsx0
  iapply (load_slot 𝒱₀ (c : Thread nD τ) none (m := gB) (r := rS0) (hr := fun _ => rfl) (hq := squeezes_S1x256x512_S256x512) (gAt0 m c)) $$ [Hsg0]
  · iexact Hsg0
  iintro Hsg0
  -- the other two have
  iapply (copy_wait EC 𝒱₀ (c : Thread nD τ) none (src := xH1) (dst := xS1) (sm := xQ1.sem) ()
      (m ((c : Thread nD τ).loc main_arg0)) (O := debt {.came} c)) $$ [Hc2 HO]
  · isplitl [Hc2]; · iexact Hc2
    isplitl [HO]; · iexact HO
    iapply (may_wait c (.dma xQ1.sem) {.came} (by decide)); iexact Hlev
  iintro ⟨Hsx1, Hx1, Hqx1, HO⟩
  iapply (copy_wait EC 𝒱₀ (c : Thread nD τ) none (src := gH1) (dst := gS1) (sm := gQ1.sem) ()
      (m ((c : Thread nD τ).loc main_arg1)) (O := debt {.came} c)) $$ [Hc3 HO]
  · isplitl [Hc3]; · iexact Hc3
    isplitl [HO]; · iexact HO
    iapply (may_wait c (.dma gQ1.sem) {.came} (by decide)); iexact Hlev
  iintro ⟨Hsg1, Hg1, Hqg1, HO⟩
  -- their values
  iapply (load_slot 𝒱₀ (c : Thread nD τ) none (m := xB) (r := rS1) (hr := fun _ => rfl) (hq := squeezes_S1x256x512_S256x512) (xAt1 m c)) $$ [Hsx1]
  · iexact Hsx1
  iintro Hsx1
  iapply (load_slot 𝒱₀ (c : Thread nD τ) none (m := gB) (r := rS1) (hr := fun _ => rfl) (hq := squeezes_S1x256x512_S256x512) (gAt1 m c)) $$ [Hsg1]
  · iexact Hsg1
  iintro Hsg1
  -- the first exchange slot, read (the value is not used) and stored
  icases He0 with ⟨%e0, He0⟩
  iapply (load_slot 𝒱₀ (c : Thread nD τ) none (m := eB) (r := rE0) (hr := fun _ => rfl) (hq := squeezes_S1x2x512_S2x512) e0) $$ [He0]
  · iexact He0
  iintro He0
  iapply (store_slot 𝒱₀ (c : Thread nD τ) none (m := eB) (r := rE0) (hr := fun _ => rfl) (hq := squeezes_S1x2x512_S2x512)) $$ [He0]
  · iexists e0; iexact He0
  iintro He0
  -- the wait for the partner's signal: the partner's landing slot
  iapply ((exch m).wait_end EX κ 𝒱₀ (c : Thread nD τ) none (wpE_semWait_eq 𝒱₀ (c : Thread nD τ) none Set.univ)
      (O := debt {.came} c) (c, .ready) rfl rfl) $$ [Hready HcR HO]
  · isplitl [Hready]; · iexact Hready
    isplitl [HcR]; · iexact HcR
    isplitl [HO]; · iexact HO
    iapply (may_wait c (Leg.sem .ready) {.came} (by decide)); iexact Hlev
  iintro ⟨HeM, HzR, HO⟩
  ihave HeM := (Entails.of_eq (show (exch m).gift (c, .ready) = anySlot (mate c) eS1 from rfl)) $$ HeM
  -- the transfer
  rw [debt_came]
  iapply ((exch m).send_end EX κ 𝒱₀ (c : Thread nD τ) none 0 (part m c) (c, .sent) (mate c, .came) rfl
      (congrArg (fun d : Dev nD => ((d : Thread nD τ), Leg.sem .came)) (dev2_eq c).symm) rfl rfl .rfl
      (Entails.of_eq ((landing (dev2_eq c) _).trans (gift_came m c).symm)))
    $$ [HpayS HpayC He0 HeM HO]
  · isplitl [HpayS]; · iexact HpayS
    isplitl [HpayC]; · iexact HpayC
    isplitl [He0]; · iexact He0
    isplitl [HeM]
    · icases HeM with ⟨%w, HeM⟩
      iexists w
      iapply (Entails.of_eq (landing (dev2_eq c) w).symm); iexact HeM
    iexact HO
  iintro ⟨HcS, HO⟩
  -- the wait for it to leave: the first slot back
  iapply ((exch m).wait_end EX κ 𝒱₀ (c : Thread nD τ) none (wpE_waitDma2_eq 𝒱₀ (c : Thread nD τ) none Set.univ)
      (O := 0) (c, .sent) rfl rfl) $$ [Hsent HcS HO]
  · isplitl [Hsent]; · iexact Hsent
    isplitl [HcS]; · iexact HcS
    isplitl [HO]; · iexact HO
    rw [MayWait_zero]; iempintro
  iintro ⟨He0, HzS, HO⟩
  ihave He0 := (Entails.of_eq (show (exch m).gift (c, .sent) = gift m c .sent from rfl)) $$ He0
  -- the wait for the partner's to land: the landing slot back
  iapply ((exch m).wait_end EX κ 𝒱₀ (c : Thread nD τ) none (wpE_waitDma2_eq 𝒱₀ (c : Thread nD τ) none Set.univ)
      (O := 0) (c, .came) rfl rfl) $$ [Hcame HcC HO]
  · isplitl [Hcame]; · iexact Hcame
    isplitl [HcC]; · iexact HcC
    isplitl [HO]; · iexact HO
    rw [MayWait_zero]; iempintro
  iintro ⟨He1, HzC, HO⟩
  ihave He1 := (Entails.of_eq (show (exch m).gift (c, .came) = gift m c .came from rfl)) $$ He1
  unfold gift
  -- both exchange slots, and the result's block
  iapply (load_slot 𝒱₀ (c : Thread nD τ) none (m := eB) (r := rE0) (hr := fun _ => rfl) (hq := squeezes_S1x2x512_S2x512) (part m c)) $$ [He0]
  · iexact He0
  iintro He0
  iapply (load_slot 𝒱₀ (c : Thread nD τ) none (m := eB) (r := rE1) (hr := fun _ => rfl) (hq := squeezes_S1x2x512_S2x512) (part m (mate c))) $$ [He1]
  · iexact He1
  iintro He1
  ihave Hout := (result_elements c v0) $$ Hout
  icases Hout with ⟨%f0, Hout⟩
  iapply (wp_load 𝒱₀ (c : Thread nD τ) none Set.univ (m := oB) (Finset.subset_univ _)) $$ Hout; iintro Hout
  iapply (wp_store 𝒱₀ (c : Thread nD τ) none Set.univ (m := oB) (r := rO) (Mk := Finset.univ) (Finset.subset_univ _)) $$ Hout; iintro Hout
  rw [wp_ret]; imodintro
  iapply Hk
  unfold finish
  rw [show (dats m 0 c).owed t0_0.succ = 0 from debt_none c, all_legs]
  isplitl [Hx0 Hx1 Hg0 Hg1 Hsx0 Hsx1 Hsg0 Hsg1 He0 He1 Hqx0 Hqx1 Hqg0 Hqg1 HzR HzS HzC]
  · isplitl [Hx0 Hx1 Hg0 Hg1]
    · iapply (opnds_join m c)
      unfold halves
      isplitl [Hx0]; · iexact Hx0
      isplitl [Hx1]; · iexact Hx1
      isplitl [Hg0]; · iexact Hg0
      iexact Hg1
    isplitl [Hsx0 Hsx1 Hsg0 Hsg1 He0 He1]
    · iapply (scratch_join c)
      unfold slots anySlot
      isplitl [Hsx0]; · iexists _; iexact Hsx0
      isplitl [Hsx1]; · iexists _; iexact Hsx1
      isplitl [Hsg0]; · iexists _; iexact Hsg0
      isplitl [Hsg1]; · iexists _; iexact Hsg1
      isplitl [He0]; · iexists _; iexact He0
      iexists _; iexact He1
    isplitl [Hqx0 Hqx1 Hqg0 Hqg1]
    · unfold locals
      isplitl [Hqx0]; · iexact Hqx0
      isplitl [Hqx1]; · iexact Hqx1
      isplitl [Hqg0]; · iexact Hqg0
      iexact Hqg1
    isplitl [HzR]; · iexact HzR
    isplitl [HzS]; · iexact HzS
    iexact HzC
  isplitl [HO]
  · iexists _
    isplitr
    rotate_left
    · iexact HO
    · ipureintro; exact fun _ _ => Or.inl trivial
  unfold owns
  rw [show (oB : Memref sig .tc .vmem S2x512 .f32).view.set = Finset.univ from View.set_whole _]
  iexists _
  isplitr
  rotate_left
  · iexact Hout
  · ipureintro; exact stored f0 _

set_option maxRecDepth 4000 in
/-- The body's obligation on core `c`. -/
theorem body_obligation (c : Dev nD) : BodyObligation (dats (F := F) m 0 c) (defs₀ (F := F)) 𝒱₀ () Set.univ := fun t => by
  rw [fin_N0 t, bigSep_W0, bigSep_W0]
  show iprop((start m c ∗ scratch c) ∗ (dats m 0 c).owesAt () t0_0.castSucc ∗ (∃ d, result c ((dats m 0 c).before (0 : Fin 1) t0_0 d)))
      ⊢ wp frame (wpE (defs₀ (F := F)) 𝒱₀ c none) Set.univ
          (cc0_body (Memref.whole main_arg0) (Memref.isWhole_whole _) (Memref.whole main_arg1) (Memref.isWhole_whole _)
            (Memref.whole main_arg2) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 (Memref.whole cc0_scratch4) (Memref.isWhole_whole _) cc0_scratch5 cc0_scratch6)
          (fun _ => iprop(finish m c ∗ (dats m 0 c).owesAt () t0_0.succ ∗ result c (outAt m c)))
  unfold start
  iintro ⟨⟨⟨⟨%κ, Hends⟩, Hl, Hop, Hc, Hlev⟩, Hscr⟩, Ho, ⟨%d, Hout⟩⟩
  iapply (body_run m κ c _)
  unfold inPieces
  isplitl [Hends Hl Hop Hc Hlev Hscr]
  · isplitl [Hends]; · iexact Hends
    isplitl [Hc]; · iexact Hc
    isplitl [Hlev]; · iexact Hlev
    isplitl [Hl]; · iexact Hl
    isplitl [Hop]; · iapply (opnds_cut m c); iexact Hop
    iapply (scratch_cut c); iexact Hscr
  isplitl [Ho]; · iexact Ho
  isplitl [Hout]; · iexists _; iexact Hout
  iintro H; iexact H

end Run

end Cert.Exchange

end
-- ==== Proof.Launch.lean ====
/-
# The launch: all sixteen devices run

Before the bodies start, one step over the whole mesh makes both ends of every exchange cell from the cells' counters and
deals them out: a device keeps the waiting ends of its own three cells, and the paying end of a cell goes to whoever pays it,
so the paying ends of `ready` and `came` cross to the partner. With that and `Body.body_obligation` the library's launch
theorem gives `run_main`: every execution ends, the result array of device `c` holds `outAt m c`, the operands hold
what they held, and every semaphore counter is zero.
-/
module

public import proofs.«01_k».proof.Proof.Body
public import Idealize.ShloMosaic.Lib.Pipeline.CollectiveSegs

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch starts with -/

/-- The semaphores the kernel declares: the local copies' four, then `sent` and `came`; `ready`'s is the mesh's barrier. -/
abbrev osem : Fin 6 → SemLoc sig := ![.dma xQ0.sem, .dma xQ1.sem, .dma gQ0.sem, .dma gQ1.sem, Leg.sem .sent, Leg.sem .came]

theorem ownSemFacts : Pipeline.OwnSemFacts cfg0.spec osem := by decide

theorem share_eq (c : Dev nD) (w : Fin cfg0.W) : (dats (F := F) m 0 c).share w = fullShare := by unfold Dat.share; split <;> rfl

/-- The ghost state the run starts from: the result's window, the exchange, no local copy under way. -/
def u₀ : UU := (Rounds.initOf (Pipeline.cells cfgs cellOf_inj) (Pipeline.launchToks cfgs cellOf_inj),
  (Rounds.initOf (exch m).cells (exch m).duties, (1 : Counters)))

theorem u₀_split (a : UR sig nD τ) (b : UX) : (ownU ((a, (b, (1 : Counters))) : UU) : sProp 𝕄) ⊢ iprop(BI.own (EP a) ∗ BI.own (EX b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A device's share before the mesh-wide step, -/
def seeded (c : Dev nD) : sProp 𝕄 := bigSep Finset.univ fun l : Leg => (exch m).seed EX (c, l)
/-- and after it. -/
def dealt (c : Dev nD) : sProp 𝕄 := iprop((∃ κ, ends m κ c) ∗ locals c)

theorem mint : BI.own (EX (F := F) (Rounds.initOf (exch m).cells (exch m).duties)) ⊢ (|==> bigSep Finset.univ (seeded m) : sProp 𝕄) := by
  have h := (exch m).seeds EX
  rwa [bigSep_univ_prod] at h

/-! ## The counters -/

theorem ownSems0_eq (c : Dev nD) : (Pipeline.ownSems0 (Ix := Unit) (Name := ℕ) (U := UU) (Lvl := ℕ) (Val := Elt F) (τ := τ) osem c : sProp 𝕄)
    = iprop(semVal ((c : Thread nD τ), .dma xQ0.sem) 0 ∗ semVal ((c : Thread nD τ), .dma xQ1.sem) 0
      ∗ semVal ((c : Thread nD τ), .dma gQ0.sem) 0 ∗ semVal ((c : Thread nD τ), .dma gQ1.sem) 0
      ∗ semVal (place (c, .sent)) 0 ∗ semVal (place (c, .came)) 0) := by
  rw [Pipeline.ownSems0_eq_of_list c osem [0, 1, 2, 3, 4, 5] (by decide) (by decide)]; rfl

theorem unscopedSems0_eq (c : Dev nD) : (unscopedSems0 c : sProp 𝕄) = semVal (place (c, .ready)) 0 := by
  unfold unscopedSems0; rw [bigSep_eq_bigSepL_of_eq [Leg.sem .ready] (by decide) (by decide)]; rfl

/-- A device's counters: the local copies' four stay its own, the exchange's three join their cells' seeds. -/
theorem counters (c : Dev nD) :
    iprop(Pipeline.ownSems0 (Ix := Unit) (Name := ℕ) (U := UU) (Lvl := ℕ) (Val := Elt F) (τ := τ) osem c ∗ unscopedSems0 c ∗ seeded m c)
      ⊢ iprop(locals c ∗ bigSep Finset.univ fun l : Leg => iprop(semVal ((exch m).cell (c, l)) 0 ∗ (exch m).seed EX (c, l))) := by
  rw [ownSems0_eq, unscopedSems0_eq, all_legs]
  unfold locals seeded
  rw [all_legs]
  iintro ⟨⟨H0, H1, H2, H3, HS, HC⟩, HR, SR, SS, SC⟩
  isplitl [H0 H1 H2 H3]
  · isplitl [H0]; · iexact H0
    isplitl [H1]; · iexact H1
    isplitl [H2]; · iexact H2
    iexact H3
  isplitl [HR SR]
  · isplitl [HR]; · iexact HR
    iexact SR
  isplitl [HS SS]
  · isplitl [HS]; · iexact HS
    iexact SS
  isplitl [HC]; · iexact HC
  iexact SC

/-! ## Dealing over the mesh -/

/-- From the payee of a step to the device that pays it: its own inverse. -/
def payers : Dev nD × Leg ≃ Dev nD × Leg where
  toFun j := (j.2.payee j.1, j.2)
  invFun j := (j.2.payee j.1, j.2)
  left_inv j := Prod.ext (j.2.payee_payee j.1) rfl
  right_inv j := Prod.ext (j.2.payee_payee j.1) rfl

/-- All the ends of the exchange, device by device. -/
theorem ends_dealt (κ : Dev nD × Leg → ℕ) :
    iprop((bigSep Finset.univ ((exch m).waitingEnd EX κ)) ∗ bigSep Finset.univ ((exch m).payingEnd EX κ))
      ⊢ (bigSep Finset.univ (ends m κ) : sProp 𝕄) := by
  unfold ends
  rw [bigSep_univ_equiv payers ((exch m).payingEnd EX κ), bigSep_univ_prod, bigSep_univ_prod, bigSep_sep']
  exact Entails.of_eq rfl

/-- The mesh-wide step. -/
theorem glob : (bigSep Finset.univ fun c => iprop(Pipeline.ownSems0 (Ix := Unit) (Name := ℕ) (U := UU) (Lvl := ℕ) (Val := Elt F) (τ := τ) osem c ∗ unscopedSems0 c ∗ seeded m c) : sProp 𝕄)
    ⊢ |={Set.univ}=> bigSep Finset.univ (dealt m) := by
  have hmade := (exch m).ends_made EX
  have hone (κ : Dev nD × Leg → ℕ) (c : Dev nD) : ends m κ c ⊢ (iprop(∃ κ, ends m κ c) : sProp 𝕄) := by
    iintro H; iexists κ; iexact H
  have hall (κ : Dev nD × Leg → ℕ) : bigSep Finset.univ (ends m κ) ⊢ (bigSep Finset.univ fun c => iprop(∃ κ, ends m κ c) : sProp 𝕄) :=
    bigSep_mono fun c _ => hone κ c
  have hmesh : (bigSep Finset.univ fun c => iprop(locals c ∗ bigSep Finset.univ fun l : Leg => iprop(semVal ((exch m).cell (c, l)) 0 ∗ (exch m).seed EX (c, l))) : sProp 𝕄)
      ⊢ |={Set.univ}=> bigSep Finset.univ (dealt m) := by
    unfold dealt
    rw [bigSep_sep', bigSep_sep', ← bigSep_univ_prod (fun j : Dev nD × Leg => iprop(semVal ((exch m).cell j) 0 ∗ (exch m).seed EX j))]
    iintro ⟨Hl, H⟩
    imod hmade $$ H with ⟨%κ, H⟩
    imodintro
    isplitr [Hl]
    · iapply (hall κ)
      iapply (ends_dealt m κ)
      iexact H
    iexact Hl
  exact (bigSep_mono fun c _ => counters m c).trans hmesh

/-- A device may wait for what its partner owes it. -/
theorem credits (S : Finset Leg) (c : Dev nD) : (Pipeline.launchCred (debt S) c : sProp 𝕄) ⊢ claims S c := by
  unfold claims
  refine (Entails.of_eq (Pipeline.launchCred_sum S (fun l d => tallyAt (place (l.payee d, l)) () l.units) c)).trans ?_
  exact bigSep_mono fun l _ => Pipeline.launchCred_tallyAt l.sem l.payee l.payee l.payee_payee l.payee_payee () l.units c

/-! ## Into and out of the body -/

/-- The operand the kernel is given and does not read. -/
def idle (c : Dev nD) : sProp 𝕄 := iprop(((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levels
        ∗ Pipeline.launchCred (debt {.ready, .came}) c ∗ prngReg c (ρ c) ∗ dealt m c)
      ⊢ |={Set.univ}=> iprop(start m c ∗ idle m c) := by
  rw [Pipeline.unscopedRestP_none, unscopedRest0_eq]
  iintro ⟨⟨Hx, Hg, Hw⟩, Hlev, Hcr, -, HG⟩
  ihave Hc := (credits (F := F) {.ready, .came} c) $$ Hcr
  imodintro
  unfold start dealt opnds idle
  icases HG with ⟨HG, Hl⟩
  isplitr [Hw]
  · isplitl [HG]; · iexact HG
    isplitl [Hl]; · iexact Hl
    isplitl [Hx Hg]
    · isplitl [Hx]; · iexact Hx
      iexact Hg
    isplitl [Hc]; · iexact Hc
    iexact Hlev
  · iexact Hw

theorem into_body (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = iprop(start m c ∗ scratch c) from rfl, scopedRest0_eq]
  unfold scratch
  iintro ⟨Hs, -, Hr⟩
  isplitl [Hs]; · iexact Hs
  iexact Hr

theorem out_of_body (c : Dev nD) :
    (dats (F := F) m 0 c).Φ (Fin.last cfg0.N)
      ⊢ iprop((opnds m c ∗ unscopedSems0 c) ∗ Pipeline.ownSems0 osem c ∗ Pipeline.scopedRest cfg0.spec c) := by
  rw [show (dats (F := F) m 0 c).Φ (Fin.last cfg0.N) = finish m c from rfl, scopedRest0_eq, ownSems0_eq, unscopedSems0_eq]
  unfold finish locals scratch
  rw [all_legs]
  iintro ⟨Ho, Hr, ⟨H0, H1, H2, H3⟩, HB, HS, HV⟩
  isplitl [Ho HB]
  · isplitl [Ho]; · iexact Ho
    iexact HB
  isplitr [Hr]
  · isplitl [H0]; · iexact H0
    isplitl [H1]; · iexact H1
    isplitl [H2]; · iexact H2
    isplitl [H3]; · iexact H3
    isplitl [HS]; · iexact HS
    iexact HV
  iexact Hr

theorem waits (c : Dev nD) : (levels : sProp 𝕄) ⊢ Pipeline.cellsWaits cfgs (dats m) () 0 c :=
  Pipeline.cellsWaits_intro cfgs (dats m) () 0 c fun w s t =>
    may_wait c _ _ fun l hl => by
      have hlow : height (.dma ((cfg0.win w).sem s)) = 0 := by fin_cases w <;> fin_cases s <;> decide
      have hhigh : ∀ l ∈ (if t.val = 0 then {.ready, .came} else ∅ : Finset Leg), 0 < height l.sem := by
        split <;> decide
      exact hlow.trans_lt (hhigh l hl)

theorem owed_first (c : Dev nD) : (dats (F := F) m 0 c).owed 0 = debt {.ready, .came} c := rfl
theorem owed_last (c : Dev nD) : (dats (F := F) m 0 c).owed (Fin.last cfg0.N) = 0 := debt_none c

/-! ## The run -/

/-- The result's one block is the whole array: after the write-back it holds what the body left. -/
theorem result_holds (c : Dev nD) : (dats (F := F) m 0 c).arrAt (0 : Fin 1) cfg0.N = outAt m c := by
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have h : (win0_0.blk (0 : Fin 1)).view.read (Elt F) ((dats (F := F) m 0 c).arrAt (0 : Fin 1) cfg0.N) = outAt m c := by
    rw [show cfg0.N = ((0 : Fin 1) : Fin cfg0.N).val + 1 from rfl, (dats (F := F) m 0 c).arrAt_succ (0 : Fin 1) (0 : Fin 1)]
    rw [show (cfg0.win (0 : Fin 1)).flush (0 : Fin 1) = true from by decide, if_pos rfl]
    exact View.read_write_univ _ _
  exact (hr _).symm.trans h

/-- What the operands and the idle array are read to hold at the end. -/
def kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem read_end (c : Dev nD) (s' : Phys nD τ sig (Elt F)) :
    iprop((opnds m c ∗ unscopedSems0 c) ∗ idle m c ∗ SI s')
      ⊢ |={Set.univ}=> iprop(⌜kept m c s'.mem ∧ ∀ sm : SemLoc sig, sm.isScoped .tc = false → s'.mem.sem ((c.tc : Thread nD τ), sm) = 0⌝ ∗ (SI s' : sProp 𝕄)) := by
  unfold opnds idle
  iintro ⟨⟨⟨Hx, Hg⟩, Hu⟩, Hw, HSI⟩
  icombine HSI Hx gives %hx
  icombine HSI Hg gives %hg
  icombine HSI Hw gives %hw
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨Buf.eq_of_forall_mem_univ hx, Buf.eq_of_forall_mem_univ hg, Buf.eq_of_forall_mem_univ hw⟩, hs⟩
  iexact HSI

set_option maxRecDepth 8000 in
/-- For any float values, from any memory with all counters zero: the program ends on all sixteen devices; then device
    `c`'s result array holds `outAt m c`, its three argument arrays what they held, and every counter is zero. -/
theorem run_main : θ_run defs (onTc (τ := τ) (main (F := F))) ⟨m, fun _ => 0, ρ⟩
    (fun r => (∀ c : Dev nD, r.2.mem ((c.tc : Thread nD τ).loc main_v1) = outAt m c ∧ kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := debt {.ready, .came}) (howed₀ := owed_first m) (howedN := owed_last m)
    (L := levelled) (lv := level) (hL := fun g h => Finset.eq_empty_of_forall_notMem fun _ hu => h (mem_levelled.mp hu)) (hwaits := waits m)
    (G := seeded m) (G' := dealt m) (u₀ := u₀ m)
    (hu₀ := by
      unfold u₀
      iintro Hu
      ihave H := (u₀_split _ _) $$ Hu
      icases H with ⟨HP, HX⟩
      imod (mint m) $$ HX with HG
      imodintro
      isplitl [HP]; · iexact HP
      iexact HG)
    (hglob := glob m)
    (hA := fun _ _ => rfl) (hpf := fun _ k => k.elim0)
    (X := start m) (Y := fun c => iprop(opnds m c ∗ unscopedSems0 c)) (Z := idle m)
    (hX := fun c => by exact start_intro m ρ c) (hin := into_body m) (hout := out_of_body m)
    (QY := fun c s => kept m c s ∧ ∀ sm : SemLoc sig, sm.isScoped .tc = false → s.sem ((c.tc : Thread nD τ), sm) = 0)
    (hY := read_end m)
    (hQ := fun _ h hs => ⟨fun c => ⟨((h c).1 (0 : Fin 1)).trans (result_holds m c), (h c).2.2.1⟩, sem_eq_zero hs fun c => (h c).2.2.2⟩)

end Cert.Exchange

end
-- ==== Proof.Row.lean ====
/-
# One row of the normalisation, over the extended reals

Both programs normalise a row `f` of 512 numbers in the same way: subtract the mean, then scale by one over the square
root of the variance plus a small constant. The kernel computes the scale by one reciprocal square root, the reference
by a square root and a division. The two are the same number as long as what stands under the root is positive, and it
always is: a square is nonnegative even where the row holds an infinity, so the variance is, and the constant is
positive.
-/
module

public import Idealize.ShloMosaic.Lib.Pointwise
public import Idealize.ShloMosaic.Lib.IdealHost
public import Idealize.ShloMosaic.Lib.KernelVsHost

@[expose] public section

noncomputable section

namespace Cert.Row

open Idealize.ShloMosaic

/-! ## The constants the programs write as words -/

/-- The width of a row. -/
abbrev width : EReal := Ideal.ofBits .f32 0x44000000#32
/-- The constant under the root. -/
abbrev small : EReal := Ideal.ofBits .f32 0x3727C5AC#32

theorem width_eq : width = ((512 : ℝ) : EReal) := by
  simp [Ideal.ofBits, Ideal.ieee, -EReal.coe_mul]; norm_num

theorem width_pos : 0 < width := by rw [width_eq]; exact_mod_cast (by norm_num : (0 : ℝ) < 512)

theorem small_pos : 0 < small := by
  have h : small = (((2 ^ 23 + 2606508 : ℕ) * (2 : ℝ) ^ (-40 : ℤ) : ℝ) : EReal) := by
    simp [Ideal.ofBits, Ideal.ieee, -EReal.coe_mul]
  rw [h, EReal.coe_pos]
  positivity

/-! ## Mean, variance, normalised row -/

def mean (f : Fin 512 → EReal) : EReal := Ideal.div (∑ k, f k) width
def variance (f : Fin 512 → EReal) : EReal := Ideal.div (∑ k, (f k - mean f) * (f k - mean f)) width
def hat (f : Fin 512 → EReal) (l : Fin 512) : EReal := (f l - mean f) * Ideal.rsqrt (variance f + small)

/-- Row `i` of an array of rows. -/
def rowOf {n : Nat} (x : (⟨2, ![n, 512]⟩ : Shape).Idx → EReal) (i : Fin n) : Fin 512 → EReal := fun k => x (ix2 i k)

/-- What one row `f` of `x`, with the entry `y` of the same row of `dy` in column `l`, adds to column `l` of the two rows
    of the result: the product with the normalised entry to row 0, the entry itself to row 1. -/
def contrib (f : Fin 512 → EReal) (y : EReal) (r : Fin 2) (l : Fin 512) : EReal := if r = 0 then y * hat f l else y

/-- The result over the `n` rows of two arrays. -/
def total {n : Nat} (x g : (⟨2, ![n, 512]⟩ : Shape).Idx → EReal) (r : Fin 2) (l : Fin 512) : EReal :=
  ∑ i, contrib (rowOf x i) (g (ix2 i l)) r l

/-- The result over arrays of `n` rows is the sum of the results over their first `a` and their last `b` rows. -/
theorem total_split {a b n : Nat} (hn : a + b = n) (x g : (⟨2, ![n, 512]⟩ : Shape).Idx → EReal)
    (x0 g0 : (⟨2, ![a, 512]⟩ : Shape).Idx → EReal) (x1 g1 : (⟨2, ![b, 512]⟩ : Shape).Idx → EReal)
    (hx0 : ∀ (i : Fin a) (k : Fin 512), x0 (ix2 i k) = x (ix2 ⟨i.val, by omega⟩ k))
    (hg0 : ∀ (i : Fin a) (k : Fin 512), g0 (ix2 i k) = g (ix2 ⟨i.val, by omega⟩ k))
    (hx1 : ∀ (i : Fin b) (k : Fin 512), x1 (ix2 i k) = x (ix2 ⟨a + i.val, by omega⟩ k))
    (hg1 : ∀ (i : Fin b) (k : Fin 512), g1 (ix2 i k) = g (ix2 ⟨a + i.val, by omega⟩ k)) (r : Fin 2) (l : Fin 512) :
    total x g r l = total x0 g0 r l + total x1 g1 r l := by
  subst hn
  unfold total
  rw [Fin.sum_univ_add]
  refine congrArg₂ (· + ·) (Finset.sum_congr rfl fun i _ => ?_) (Finset.sum_congr rfl fun i _ => ?_)
  · rw [hg0 i l, show rowOf x0 i = rowOf x (i.castAdd b) from funext fun k => hx0 i k]; rfl
  · rw [hg1 i l, show rowOf x1 i = rowOf x (i.natAdd a) from funext fun k => hx1 i k]; rfl

theorem square_nonneg (x : EReal) : 0 ≤ x * x := by
  rcases le_total 0 x with h | h
  · exact mul_nonneg h h
  · rw [← neg_mul_neg]
    have h' : 0 ≤ -x := EReal.neg_nonneg.mpr h
    exact mul_nonneg h' h'

theorem variance_nonneg (f : Fin 512 → EReal) : 0 ≤ variance f := by
  have h : 0 ≤ ∑ k, (f k - mean f) * (f k - mean f) := Finset.sum_nonneg fun k _ => square_nonneg _
  unfold variance Ideal.div
  rw [if_neg width_pos.ne']
  exact mul_nonneg h (EReal.inv_nonneg_of_nonneg width_pos.le)

theorem under_root_pos (f : Fin 512 → EReal) : 0 < variance f + small :=
  lt_of_lt_of_le small_pos (le_add_of_nonneg_left (variance_nonneg f))

/-- Where its argument is positive, the reciprocal square root is one over the square root. -/
theorem rsqrt_eq {v : EReal} (hv : 0 < v) : Ideal.rsqrt v = Ideal.div (Ideal.ofBits .f32 0x3F800000#32) (Ideal.sqrt v) := by
  rw [Ideal.ofBits_one_f32]
  induction v using EReal.rec with
  | bot => exact absurd hv (by simp)
  | top =>
    rw [show Ideal.rsqrt ⊤ = 0 from rfl, show Ideal.sqrt ⊤ = ⊤ from rfl]
    simp [Ideal.div]
  | coe r =>
    have hr : 0 < r := EReal.coe_pos.mp hv
    have hs : Real.sqrt r ≠ 0 := (Real.sqrt_pos.mpr hr).ne'
    have hs' : ((Real.sqrt r : ℝ) : EReal) ≠ 0 := fun e => hs (EReal.coe_eq_zero.mp e)
    rw [show Ideal.rsqrt (r : EReal) = if r < 0 then ⊥ else if r = 0 then ⊤ else (((Real.sqrt r)⁻¹ : ℝ) : EReal) from rfl,
      show Ideal.sqrt (r : EReal) = if r < 0 then ⊥ else (Real.sqrt r : EReal) from rfl,
      if_neg hr.not_gt, if_neg hr.not_gt, if_neg hr.ne', Ideal.div, if_neg hs', one_mul, EReal.coe_inv]

end Cert.Row

end
-- ==== Proof.KernelValue.lean ====
/-
# What the kernel leaves, at an index

At the extended reals the two rows a device sums up from its halves of `x` and `dy` are the sum of what the rows of
either half contribute (`part_apply`), and the result is the device's own sum plus its partner's (`outAt_apply`).
-/
module

public import proofs.«01_k».proof.Proof.Launch
public import proofs.«01_k».proof.Proof.Row

@[expose] public section

noncomputable section

namespace Cert.Exchange

open Cert.KernelIdeal Cert.KernelIdeal.Gen Cert.Slots Cert.Row
open Idealize.ShloMosaic
open Idealize.ShloMosaic.TcCoe

/-! ## Slots read back -/

/-- A staged half, loaded and reshaped, is the half; -/
theorem cast_up (v : FVec Ideal S256x512 .f32) (h : S1x256x512.ShapeCasts S256x512) : shapeCast S256x512 (up (F := Ideal) v) h = v :=
  funext fun _ => congrArg v (Equiv.symm_apply_apply _ _)

/-- and so it is for an exchange slot. -/
theorem cast_upE (v : FVec Ideal S2x512 .f32) (h : S1x2x512.ShapeCasts S2x512) : shapeCast S2x512 (upE (F := Ideal) v) h = v :=
  funext fun _ => congrArg v (Equiv.symm_apply_apply _ _)

/-- A pair of rows, reshaped and stored in an exchange slot, is the pair of rows. -/
theorem lowered_cast (w : FVec Ideal S2x512 .f32) (h : S2x512.ShapeCasts S1x2x512) :
    lowered (r := S1x2x512) squeezes_S1x2x512_S2x512 (shapeCast S1x2x512 w h) = w :=
  funext fun _ => congrArg w ((Shape.reshapeEquiv_reshapeEquiv _ _ _).trans (Shape.reshapeEquiv_self _ _))

/-- The half as staged, at an index. -/
theorem up_apply (v : FVec Ideal S256x512 .f32) (i : Fin 256) (l : Fin 512) : up (F := Ideal) v (ix3 0 i l) = v (ix2 i l) := by
  have h := congrFun (cast_up v shapeCasts_S1x256x512_S256x512) (ix2 i l)
  pointwise at h
  exact h

/-! ## The sums of one half -/

/-- Row 0 after the first half, -/
theorem first_gamma (x g : FVec Ideal S256x512 .f32) (l : Fin 512) :
    k0_pay6 (F := Ideal) k0_pay1 (k0_pay3 (up x)) (k0_pay4 (up g)) (k0_pay5 (up x)) (ix2 0 l) = total x g 0 l := by
  have hx : k0_pay3 (F := Ideal) (up x) = x := cast_up x _
  have hg : k0_pay4 (F := Ideal) (up g) = g := cast_up g _
  rw [k0_pay5, hx, hg]
  pointwise [k0_pay6, k0_pay1]
  simp [total, contrib, hat, mean, variance, rowOf]

/-- row 1 after the first half, -/
theorem first_beta (x g : FVec Ideal S256x512 .f32) (l : Fin 512) :
    k0_pay7 (F := Ideal) k0_pay2 (k0_pay4 (up g)) (ix2 0 l) = total x g 1 l := by
  have hg : k0_pay4 (F := Ideal) (up g) = g := cast_up g _
  rw [hg]
  pointwise [k0_pay7, k0_pay2]
  simp [total, contrib]

/-- and what the second half, staged as `w`, adds to both. -/
theorem second (a b : FVec Ideal S1x512 .f32) (x g : FVec Ideal S256x512 .f32) (w : Vec Ideal S1x256x512 .f32)
    (hw : ∀ i l, w (ix3 0 i l) = g (ix2 i l)) (r : Fin 2) (l : Fin 512) :
    lowered (r := S1x2x512) squeezes_S1x2x512_S2x512 (k0_pay9 (F := Ideal) a b x w) (ix2 r l)
      = (if r = 0 then a (ix2 0 l) else b (ix2 0 l)) + total x g r l := by
  rw [k0_pay9, lowered_cast]
  fin_cases r
  · pointwise
    simp only [hw, total, contrib, hat, mean, variance, rowOf, if_true]
  · pointwise
    simp [hw, total, contrib]

/-! ## The device's sums and the result -/

variable (m : (ℓ : Loc nD τ sig) → Buf (Elt Ideal) ℓ)

theorem part_apply (c : Dev nD) (r : Fin 2) (l : Fin 512) :
    part m c (ix2 r l) = total (xAt0 m c) (gAt0 m c) r l + total (xAt1 m c) (gAt1 m c) r l := by
  have hx : k0_pay8 (F := Ideal) (up (xAt1 m c)) = xAt1 m c := cast_up _ _
  rw [part, sums, second (hw := up_apply _), hx, first_gamma, first_beta (xAt0 m c)]
  fin_cases r <;> rfl

theorem outAt_apply (c : Dev nD) (r : Fin 2) (l : Fin 512) :
    outAt m c (ix2 r l) = part m c (ix2 r l) + part m (mate c) (ix2 r l) := by
  have h : outAt m c = addf (part m c) (part m (mate c)) := congrArg₂ addf (cast_upE _ _) (cast_upE _ _)
  rw [h]; rfl

/-! ## The halves, at an index -/

theorem xAt0_apply (c : Dev nD) (i : Fin 256) (k : Fin 512) :
    xAt0 m c (ix2 i k) = m ((c : Thread nD τ).loc main_arg0) (ix2 ⟨i.val, by omega⟩ k) := by
  refine congrArg (m ((c : Thread nD τ).loc main_arg0)) (funext fun a => Fin.ext ?_)
  fin_cases a
  · show 0 + 1 * i.val = i.val
    omega
  · show 0 + 1 * k.val = k.val
    omega

theorem xAt1_apply (c : Dev nD) (i : Fin 256) (k : Fin 512) :
    xAt1 m c (ix2 i k) = m ((c : Thread nD τ).loc main_arg0) (ix2 ⟨256 + i.val, by omega⟩ k) := by
  refine congrArg (m ((c : Thread nD τ).loc main_arg0)) (funext fun a => Fin.ext ?_)
  fin_cases a
  · show 256 + 1 * i.val = 256 + i.val
    omega
  · show 0 + 1 * k.val = k.val
    omega

theorem gAt0_apply (c : Dev nD) (i : Fin 256) (k : Fin 512) :
    gAt0 m c (ix2 i k) = m ((c : Thread nD τ).loc main_arg1) (ix2 ⟨i.val, by omega⟩ k) := by
  refine congrArg (m ((c : Thread nD τ).loc main_arg1)) (funext fun a => Fin.ext ?_)
  fin_cases a
  · show 0 + 1 * i.val = i.val
    omega
  · show 0 + 1 * k.val = k.val
    omega

theorem gAt1_apply (c : Dev nD) (i : Fin 256) (k : Fin 512) :
    gAt1 m c (ix2 i k) = m ((c : Thread nD τ).loc main_arg1) (ix2 ⟨256 + i.val, by omega⟩ k) := by
  refine congrArg (m ((c : Thread nD τ).loc main_arg1)) (funext fun a => Fin.ext ?_)
  fin_cases a
  · show 256 + 1 * i.val = 256 + i.val
    omega
  · show 0 + 1 * k.val = k.val
    omega

/-- A device's two rows are the result over all the rows it holds. -/
theorem part_total (c : Dev nD) (r : Fin 2) (l : Fin 512) :
    part m c (ix2 r l)
      = total (n := 512) (m ((c : Thread nD τ).loc main_arg0)) (m ((c : Thread nD τ).loc main_arg1)) r l :=
  (part_apply m c r l).trans (total_split (a := 256) (b := 256) rfl _ _ _ _ _ _ (xAt0_apply m c) (gAt0_apply m c)
    (xAt1_apply m c) (gAt1_apply m c) r l).symm

end Cert.Exchange

end
-- ==== Proof.RefValue.lean ====
/-
# What the reference leaves, at an index

At the extended reals the reference's array is the sum, over all 1024 rows, of what each row contributes
(`refOf_apply`).
-/
module

public import proofs.«01_k».proof.Proof.Gen.ReferenceIdeal
public import proofs.«01_k».proof.Proof.Gen.ReferenceIdeal.Run
public import proofs.«01_k».proof.Proof.Row

@[expose] public section

noncomputable section

namespace Cert.Whole

open Cert.ReferenceIdeal Cert.ReferenceIdeal.Gen Cert.Row
open Idealize.ShloMosaic

variable (x g : FVec Ideal S1024x512 .f32)

/-- Each row's mean, as the reference writes it, -/
def means : FVec Ideal S1024x1 .f32 :=
  Host.divf (broadcastInDim S1024x1 ![0] bcast_S1024_S1024x1_0 (Host.reduceAdd x (constant S_ .f32 0x00000000#32) reducesTo_S1024x512_S1024_d1 h_S_)) (broadcastInDim S1024x1 ![] bcast_S_S1024x1 (constant S_ .f32 0x44000000#32))
/-- the rows with their means subtracted, -/
def centred : FVec Ideal S1024x512 .f32 := subf x (broadcastInDim S1024x512 ![0, 1] bcast_S1024x1_S1024x512_0_1 (means x))
/-- the count the sum of squares is divided by: 512 less a correction of zero, -/
def count : FVec Ideal S_ .f32 := subf (constant S_ .f32 0x44000000#32) (sitofp .f32 (constantI S_ 32 0#32))
/-- each row's variance, chosen where the count is positive, -/
def variances : FVec Ideal S1024x1 .f32 :=
  select (broadcastInDim S1024x1 ![] bcast_S_S1024x1 (cmpf .ogt count (constant S_ .f32 0x00000000#32)))
    (Host.divf (broadcastInDim S1024x1 ![0] bcast_S1024_S1024x1_0 (Host.reduceAdd (mulf (centred x) (centred x)) (constant S_ .f32 0x00000000#32) reducesTo_S1024x512_S1024_d1 h_S_)) (broadcastInDim S1024x1 ![] bcast_S_S1024x1 count))
    (broadcastInDim S1024x1 ![] bcast_S_S1024x1 (id (constant S_ .f32 0x7FC00000#32)))
/-- one over the root, -/
def scales : FVec Ideal S1024x1 .f32 :=
  Host.divf (broadcastInDim S1024x1 ![] bcast_S_S1024x1 (constant S_ .f32 0x3F800000#32)) (Host.sqrt (addf (variances x) (broadcastInDim S1024x1 ![] bcast_S_S1024x1 (constant S_ .f32 0x3727C5AC#32))))
/-- and the two rows of the result. -/
def refOf : FVec Ideal S2x512 .f32 :=
  concatenate S2x512 0 [⟨S1x512, (broadcastInDim S1x512 ![1] bcast_S512_S1x512_1 (Host.reduceAdd (mulf g (mulf (centred x) (broadcastInDim S1024x512 ![0, 1] bcast_S1024x1_S1024x512_0_1 (scales x)))) (constant S_ .f32 0x00000000#32) reducesTo_S1024x512_S512_d0 h_S_))⟩, ⟨S1x512, (broadcastInDim S1x512 ![1] bcast_S512_S1x512_1 (Host.reduceAdd g (constant S_ .f32 0x00000000#32) reducesTo_S1024x512_S512_d0 h_S_))⟩] concatenates_S1x512_S1x512_S2x512_d0

theorem means_apply (i : Fin 1024) (z : Fin 1) : means x (ix2 i z) = mean (rowOf (n := 1024) x i) := by
  pointwise [means]
  simp [mean, rowOf]

theorem centred_apply (i : Fin 1024) (k : Fin 512) : centred x (ix2 i k) = x (ix2 i k) - mean (rowOf (n := 1024) x i) := by
  pointwise [centred]
  rw [means_apply]

theorem count_apply (j : S_.Idx) : count j = width := by
  pointwise [count]
  rw [show (FloatOps.sitofp .f32 (0#32 : BitVec 32) : Idealize.ShloMosaic.Ideal .f32) = 0 from sitofp_zero, sub_zero]

theorem variances_apply (i : Fin 1024) (z : Fin 1) : variances x (ix2 i z) = variance (rowOf (n := 1024) x i) := by
  pointwise [variances]
  rw [count_apply, if_pos width_pos]
  simp only [centred_apply, variance, rowOf]

theorem scales_apply (i : Fin 1024) (z : Fin 1) :
    scales x (ix2 i z) = Ideal.rsqrt (variance (rowOf (n := 1024) x i) + small) := by
  rw [rsqrt_eq (under_root_pos _)]
  pointwise [scales]
  rw [variances_apply]

theorem refOf_apply (r : Fin 2) (l : Fin 512) : refOf x g (ix2 r l) = total (n := 1024) x g r l := by
  fin_cases r
  · pointwise [refOf]
    simp [centred_apply, scales_apply, total, contrib, hat, rowOf]
  · pointwise [refOf]
    simp [total, contrib]

end Cert.Whole

end
-- ==== Proof.Agree.lean ====
/-
# The sums over the mesh are the sums over the whole array

A device holds the block of `x` and of `dy` that its coordinate on the exchanged axis names: the first 512 rows or the
last 512. Its partner holds the other block, so the device's sum and its partner's, in whichever order, are the sum over
all 1024 rows: every device ends with the reference's array (`out_eq_ref`).
-/
module

public import proofs.«01_k».proof.Proof.KernelValue
public import proofs.«01_k».proof.Proof.RefValue
public import Idealize.ShloMosaic.Lib.Layout

@[expose] public section

noncomputable section

namespace Cert.Exchange

open Cert.KernelIdeal Cert.Row
open Idealize.ShloMosaic
open Idealize.ShloMosaic.TcCoe

/-- Which of the two blocks device `c` holds. -/
abbrev side (c : Dev nD) : Nat := Layout.meshLin [2, 2, 4] c.val [1]

/-- A device and its partner hold the two blocks, one each. -/
theorem sides (c : Dev nD) : (side c = 0 ∧ side (mate c) = 1) ∨ (side c = 1 ∧ side (mate c) = 0) := by
  revert c; decide

/-- The block of a whole array on device `c`. -/
abbrev blockOf (c : Dev nD) (X : (⟨2, ![1024, 512]⟩ : Shape).Idx → EReal) : (⟨2, ![512, 512]⟩ : Shape).Idx → EReal :=
  Layout.blockN ⟨2, ![512, 512]⟩ ⟨2, ![1024, 512]⟩ (Layout.meshBlock [2, 2, 4] ![[1], []] c) X

theorem block_first {c : Dev nD} (h : side c = 0) (X : (⟨2, ![1024, 512]⟩ : Shape).Idx → EReal) (i : Fin 512) (k : Fin 512) :
    blockOf c X (ix2 i k) = X (ix2 ⟨i.val, by omega⟩ k) := by
  refine congrArg X (funext fun a => Fin.ext ?_)
  fin_cases a
  · show side c * 512 + i.val = i.val
    omega
  · show 0 * 512 + k.val = k.val
    omega

theorem block_last {c : Dev nD} (h : side c = 1) (X : (⟨2, ![1024, 512]⟩ : Shape).Idx → EReal) (i : Fin 512) (k : Fin 512) :
    blockOf c X (ix2 i k) = X (ix2 ⟨512 + i.val, by omega⟩ k) := by
  refine congrArg X (funext fun a => Fin.ext ?_)
  fin_cases a
  · show side c * 512 + i.val = 512 + i.val
    omega
  · show 0 * 512 + k.val = k.val
    omega

/-- The sums over the blocks of a device holding the first and of one holding the last are the sum over the whole. -/
theorem total_blocks {c d : Dev nD} (hc : side c = 0) (hd : side d = 1) (X G : (⟨2, ![1024, 512]⟩ : Shape).Idx → EReal)
    (r : Fin 2) (l : Fin 512) :
    total (n := 1024) X G r l = total (n := 512) (blockOf c X) (blockOf c G) r l + total (n := 512) (blockOf d X) (blockOf d G) r l :=
  total_split (a := 512) (b := 512) rfl X G _ _ _ _ (block_first hc X) (block_first hc G) (block_last hd X) (block_last hd G) r l

variable (m : (ℓ : Loc nD τ sig) → Buf (Elt Ideal) ℓ) (X G : (⟨2, ![1024, 512]⟩ : Shape).Idx → EReal)
  (hX : ∀ c : Dev nD, m ((c : Thread nD τ).loc main_arg0) = blockOf c X)
  (hG : ∀ c : Dev nD, m ((c : Thread nD τ).loc main_arg1) = blockOf c G)

include hX hG

/-- Where the devices hold the blocks of `X` and `G`, every device ends with the sums over all their rows: -/
theorem out_total (c : Dev nD) (r : Fin 2) (l : Fin 512) : outAt m c (ix2 r l) = total (n := 1024) X G r l := by
  rw [outAt_apply, part_total, part_total, hX, hX, hG, hG]
  rcases sides c with ⟨h, h'⟩ | ⟨h, h'⟩
  · exact (total_blocks h h' X G r l).symm
  · exact (add_comm (G := EReal) _ _).trans (total_blocks h' h X G r l).symm

/-- the reference's array of `X` and `G`. -/
theorem out_eq_ref (c : Dev nD) : outAt m c = Whole.refOf X G := by
  have h : ∀ j : (⟨2, ![2, 512]⟩ : Shape).Idx, outAt m c j = Whole.refOf X G j := fun j => by
    rw [eq_ix2 j]
    exact (out_total m X G hX hG c (j 0) (j 1)).trans (Whole.refOf_apply X G (j 0) (j 1)).symm
  exact funext h

end Cert.Exchange

end
-- ==== Proof.lean ====
/-
# The certificate

The five claims, from the modules under `Proof/`:

* every run of the kernel, at the bit patterns and at the extended reals, ends with its arguments unchanged and every
  semaphore counter at zero: `Exchange.run_main`, proved once for any float values;
* the same for the reference, a straight line of host operations;
* the idealized kernel is the kernel: no operation was replaced;
* at the extended reals every device's result is the reference's array: `Exchange.out_eq_ref`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the idealized kernel have the same body under each label, -/
theorem bodies_eq : Cert.Kernel.defs₀ (F := Bits) = Cert.KernelIdeal.defs₀ (F := Bits) :=
  congrArg Defs.onTc (funext fun l => match l with | 0 => funext fun (_, _) => rfl)
/-- so the same table. -/
theorem tables_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  rw [tables_eq]
  exact (θ_run (Cert.KernelIdeal.defs (F := Bits)) _ _).mono (fun _ h => ⟨fun c => (h.1 c).2, h.2⟩)
    (Cert.Exchange.run_main (F := Bits) m ρ)

theorem frame_ideal : Cert.quiescent_KernelIdeal := fun m ρ _ =>
  (θ_run Cert.KernelIdeal.defs _ _).mono (fun _ h => ⟨fun c => (h.1 c).2, h.2⟩) (Cert.Exchange.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values_agree : Cert.algebraic_KernelIdeal_ReferenceIdeal := fun m ρ m' ρ' _ hm =>
  ⟨Cert.Whole.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Exchange.out_eq_ref m _ _ (fun d => (hm d).1) (fun d => (hm d).2.1) c), (h.1 c).2⟩)
      (Cert.Exchange.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, values_agree⟩

end Cert.Proof

end
